-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_BoundedIdeal (m : (ℓ : Loc Cert.BoundedIdeal.nD Cert.BoundedIdeal.τ Cert.BoundedIdeal.sig) → Buf (Elt Ideal) ℓ) : Prop :=
  True

def Pre_BoundedIdeal_moderate [hPre_moderate : Cert.Pre_moderate.Facts] (m : (ℓ : Loc Cert.BoundedIdeal.nD Cert.BoundedIdeal.τ Cert.BoundedIdeal.sig) → Buf (Elt Ideal) ℓ) : Prop :=
  ∀ c : Dev Cert.BoundedIdeal.nD,
    (Cert.Pre_moderate.fn (F := Ideal) (m ((c.tc : Thread Cert.BoundedIdeal.nD Cert.BoundedIdeal.τ).loc Cert.BoundedIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_BoundedIdeal [hBoundedIdeal : Cert.BoundedIdeal.Facts] : Prop :=
  ∀ (m : (ℓ : Loc Cert.BoundedIdeal.nD Cert.BoundedIdeal.τ Cert.BoundedIdeal.sig) → Buf (Elt Ideal) ℓ) (g : Dev Cert.BoundedIdeal.nD → PrngReg), Pre_BoundedIdeal m →
    θ_run (Cert.BoundedIdeal.defs (F := Ideal)) (onTc (τ := Cert.BoundedIdeal.τ) (Cert.BoundedIdeal.main (F := Ideal))) ⟨m, fun _ => 0, g⟩ (fun r => (∀ c : Dev Cert.BoundedIdeal.nD,
      r.2.mem ((c.tc : Thread Cert.BoundedIdeal.nD Cert.BoundedIdeal.τ).loc Cert.BoundedIdeal.main_arg0) = m ((c.tc : Thread Cert.BoundedIdeal.nD Cert.BoundedIdeal.τ).loc Cert.BoundedIdeal.main_arg0))
      ∧ r.2.sem = fun _ => 0)

def quiescent_BoundedIdeal_pre_moderate [hBoundedIdeal : Cert.BoundedIdeal.Facts] [hPre_moderate : Cert.Pre_moderate.Facts] : Prop :=
  ∀ (m : (ℓ : Loc Cert.BoundedIdeal.nD Cert.BoundedIdeal.τ Cert.BoundedIdeal.sig) → Buf (Elt Ideal) ℓ) (g : Dev Cert.BoundedIdeal.nD → PrngReg), Pre_BoundedIdeal_moderate m →
    θ_run (Cert.BoundedIdeal.defs (F := Ideal)) (onTc (τ := Cert.BoundedIdeal.τ) (Cert.BoundedIdeal.main (F := Ideal))) ⟨m, fun _ => 0, g⟩ (fun r => (∀ c : Dev Cert.BoundedIdeal.nD,
      r.2.mem ((c.tc : Thread Cert.BoundedIdeal.nD Cert.BoundedIdeal.τ).loc Cert.BoundedIdeal.main_arg0) = m ((c.tc : Thread Cert.BoundedIdeal.nD Cert.BoundedIdeal.τ).loc Cert.BoundedIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_BoundedIdeal_pre_moderate [hKernelIdeal : Cert.KernelIdeal.Facts] [hBoundedIdeal : Cert.BoundedIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.BoundedIdeal.nD Cert.BoundedIdeal.τ Cert.BoundedIdeal.sig) → Buf (Elt Ideal) ℓ) (g' : Dev Cert.BoundedIdeal.nD → PrngReg), Pre_KernelIdeal_moderate m →
    (∀ c : Dev Cert.KernelIdeal.nD,
      m' ((c.tc : Thread Cert.BoundedIdeal.nD Cert.BoundedIdeal.τ).loc Cert.BoundedIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.BoundedIdeal.defs (F := Ideal)) (onTc (τ := Cert.BoundedIdeal.τ) (Cert.BoundedIdeal.main (F := Ideal))) ⟨m', fun _ => 0, g'⟩ (fun r => ∀ c : Dev Cert.BoundedIdeal.nD,
          r.2.mem ((c.tc : Thread Cert.BoundedIdeal.nD Cert.BoundedIdeal.τ).loc Cert.BoundedIdeal.main_v38) = v0 c
          ∧ r.2.mem ((c.tc : Thread Cert.BoundedIdeal.nD Cert.BoundedIdeal.τ).loc Cert.BoundedIdeal.main_arg0) = m' ((c.tc : Thread Cert.BoundedIdeal.nD Cert.BoundedIdeal.τ).loc Cert.BoundedIdeal.main_arg0))

def Claim : Prop :=
  ∃ (hKernel : Cert.Kernel.Facts) (hKernelIdeal : Cert.KernelIdeal.Facts) (hReferenceIdeal : Cert.ReferenceIdeal.Facts) (hBoundedIdeal : Cert.BoundedIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_BoundedIdeal (hBoundedIdeal := hBoundedIdeal)
    ∧ quiescent_BoundedIdeal_pre_moderate (hBoundedIdeal := hBoundedIdeal) (hPre_moderate := hPre_moderate)
    ∧ preserves_Kernel_KernelIdeal
    ∧ algebraic_KernelIdeal_ReferenceIdeal (hKernelIdeal := hKernelIdeal) (hReferenceIdeal := hReferenceIdeal)
    ∧ algebraic_KernelIdeal_BoundedIdeal_pre_moderate (hKernelIdeal := hKernelIdeal) (hBoundedIdeal := hBoundedIdeal) (hPre_moderate := hPre_moderate)
-- ==== Pre_moderate.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)

variable [Facts]

def fn {F : FTy → Type} [FloatOps F] (main_arg0 : FVec F S128x100000 .f32) : IVec S128x100000 1 :=
  let main_v0 : FVec F S128x100000 .f32 := Host.absf main_arg0
  let main_cst : FVec F S_ .f32 := constant S_ .f32 0x40E00000#32
  let main_v1 : FVec F S128x100000 .f32 := broadcastInDim S128x100000 ![] bcast_S_S128x100000 main_cst
  let main_v2 : IVec S128x100000 1 := cmpf .ole main_v0 main_v1
  main_v2
-- ==== Kernel.lean ====
abbrev S128x100000 : Shape := ⟨2, ![128, 100000]⟩
abbrev S100000x128 : Shape := ⟨2, ![100000, 128]⟩
abbrev S1x128 : Shape := ⟨2, ![1, 128]⟩
abbrev S4000x128 : Shape := ⟨2, ![4000, 128]⟩
abbrev S40x128 : Shape := ⟨2, ![40, 128]⟩
abbrev S128 : Shape := ⟨1, ![128]⟩

abbrev nBuf : Space → Nat
  | .hbm => 4
  | .vmem => 5
  | .smem => 0
  | _ => 0

abbrev bufTy : (tb : Table) → Fin (tcTables nBuf tb) → BufTy
  | .hbm, ⟨0, _⟩ => ⟨S128x100000, .f32⟩
  | .hbm, ⟨1, _⟩ => ⟨S100000x128, .f32⟩
  | .hbm, ⟨2, _⟩ => ⟨S1x128, .i32⟩
  | .hbm, ⟨3, _⟩ => ⟨S128, .i32⟩
  | .local _ .vmem, ⟨0, _⟩ => ⟨S4000x128, .f32⟩
  | .local _ .vmem, ⟨1, _⟩ => ⟨S4000x128, .f32⟩
  | .local _ .vmem, ⟨2, _⟩ => ⟨S1x128, .i32⟩
  | .local _ .vmem, ⟨3, _⟩ => ⟨S40x128, .f32⟩
  | .local _ .vmem, ⟨4, _⟩ => ⟨S40x128, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![25], ![false]⟩

@[reducible] def k0_t1_loop : Scf.Loop 32 :=
  let c0_i32_4 : BitVec 32 := 0#32
  let c100_i32 : BitVec 32 := 100#32
  let v14 : BitVec 32 := Scalar.addi c0_i32_4 c100_i32
  let c1_i32 : BitVec 32 := 1#32
  ⟨c0_i32_4, v14, c1_i32⟩
def k0_off1 (k0_t1 : Fin k0_t1_loop.trips) : Fin 2 → Nat :=
  let c0_i32_4 : BitVec 32 := 0#32
  let c1_i32 : BitVec 32 := 1#32
  let arg5 : BitVec 32 := Scf.iv c0_i32_4 c1_i32 k0_t1
  let c40_i32 : BitVec 32 := 40#32
  let v190 : BitVec 32 := Scalar.muli arg5 c40_i32
  let v191 : Index := Scalar.indexCast v190
  let c0_44 : Index := 0#32
  ![v191.toNat, 0]
def k0_cond2 (i : grid0.Coords) : BitVec 1 :=
  let arg0 : BitVec 32 := BitVec.ofNat 32 (i 0).val
  let c24_i32 : BitVec 32 := 24#32
  let v22 : BitVec 1 := Scalar.cmpi .eq arg0 c24_i32
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128 : Shape := ⟨1, ![128]⟩

abbrev nBuf : Space → Nat
  | .hbm => 272
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S128x100000, .i64⟩
  | 16 => ⟨S128x100000, .i64⟩
  | 17 => ⟨S_, .i64⟩
  | 18 => ⟨S128x100000, .i64⟩
  | 19 => ⟨S128x100000, .i64⟩
  | 20 => ⟨S_, .i64⟩
  | 21 => ⟨S128x100000, .i64⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S128x100000, .i32⟩
  | 28 => ⟨S128x100000, .i32⟩
  | 29 => ⟨S_, .i32⟩
  | 30 => ⟨S_, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .f32⟩
  | 3 => ⟨S_, .f32⟩
  | 4 => ⟨S128x100000, .f32⟩
  | 5 => ⟨S128x100000, .f32⟩
  | 6 => ⟨S128x100000, .f32⟩
  | 7 => ⟨S128x100000, .f32⟩
  | 8 => ⟨S128x100000, .f32⟩
  | 9 => ⟨S128x100000, .f32⟩
  | 10 => ⟨S128x100000, .f32⟩
  | 11 => ⟨S128x100000, .i32⟩
  | 12 => ⟨S_, .f32⟩
  | 13 => ⟨S_, .i32⟩
  | 14 => ⟨S128, .f32⟩
  | 15 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_v31 : Ref sig .tc := ⟨.hbm, 262, rfl⟩
abbrev main_v32 : Ref sig .tc := ⟨.hbm, 263, rfl⟩
abbrev main_v33 : Ref sig .tc := ⟨.hbm, 264, rfl⟩
abbrev main_v34 : Ref sig .tc := ⟨.hbm, 265, rfl⟩
abbrev main_v35 : Ref sig .tc := ⟨.hbm, 266, rfl⟩
abbrev main_call1_v0 : Ref sig .tc := ⟨.hbm, 267, rfl⟩
abbrev main_call1_cst : Ref sig .tc := ⟨.hbm, 268, rfl⟩
abbrev main_call1_c : Ref sig .tc := ⟨.hbm, 269, rfl⟩
abbrev main_call1_v1_0 : Ref sig .tc := ⟨.hbm, 270, rfl⟩
abbrev main_v36 : Ref sig .tc := ⟨.hbm, 271, rfl⟩

abbrev nD : Nat := 1
abbrev τ : Topo := Topo.v7x

variable {F : FTy → Type} [FloatOps F]
-- ==== BoundedIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128 : Shape := ⟨1, ![128]⟩

abbrev nBuf : Space → Nat
  | .hbm => 275
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S128x100000, .i64⟩
  | 16 => ⟨S128x100000, .i64⟩
  | 17 => ⟨S_, .i64⟩
  | 18 => ⟨S128x100000, .i64⟩
  | 19 => ⟨S128x100000, .i64⟩
  | 20 => ⟨S_, .i64⟩
  | 21 => ⟨S128x100000, .i64⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S128x100000, .i32⟩
  | 28 => ⟨S128x100000, .i32⟩
  | 29 => ⟨S_, .i32⟩
  | 30 => ⟨S_, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .f32⟩
  | 3 => ⟨S_, .f32⟩
  | 4 => ⟨S128x100000, .f32⟩
  | 5 => ⟨S128x100000, .f32⟩
  | 6 => ⟨S_, .f32⟩
  | 7 => ⟨S128x100000, .f32⟩
  | 8 => ⟨S128x100000, .f32⟩
  | 9 => ⟨S128x100000, .f32⟩
  | 10 => ⟨S128x100000, .f32⟩
  | 11 => ⟨S128x100000, .f32⟩
  | 12 => ⟨S128x100000, .f32⟩
  | 13 => ⟨S128x100000, .f32⟩
  | 14 => ⟨S128x100000, .i32⟩
  | 15 => ⟨S_, .f32⟩
  | 16 => ⟨S_, .i32⟩
  | 17 => ⟨S128, .f32⟩
  | 18 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_cst_7 : Ref sig .tc := ⟨.hbm, 262, rfl⟩
abbrev main_v31 : Ref sig .tc := ⟨.hbm, 263, rfl⟩
abbrev main_v32 : Ref sig .tc := ⟨.hbm, 264, rfl⟩
abbrev main_v33 : Ref sig .tc := ⟨.hbm, 265, rfl⟩
abbrev main_v34 : Ref sig .tc := ⟨.hbm, 266, rfl⟩
abbrev main_v35 : Ref sig .tc := ⟨.hbm, 267, rfl⟩
abbrev main_v36 : Ref sig .tc := ⟨.hbm, 268, rfl⟩
abbrev main_v37 : Ref sig .tc := ⟨.hbm, 269, rfl⟩
abbrev main_call1_v0 : Ref sig .tc := ⟨.hbm, 270, rfl⟩
abbrev main_call1_cst : Ref sig .tc := ⟨.hbm, 271, rfl⟩
abbrev main_call1_c : Ref sig .tc := ⟨.hbm, 272, rfl⟩
abbrev main_call1_v1_0 : Ref sig .tc := ⟨.hbm, 273, rfl⟩
abbrev main_v38 : Ref sig .tc := ⟨.hbm, 274, rfl⟩

abbrev nD : Nat := 1
abbrev τ : Topo := Topo.v7x

variable {F : FTy → Type} [FloatOps F]
-- ==== Proof.Threefry.lean ====
/-
  The counter cipher Threefry-2x32 with twenty rounds, at the key (0, 42), on 32-bit words: what the kernel computes lane
  by lane and the reference computes element by element. The first word of every counter is 0, so the cipher is a function
  of the second word alone, to which the second key word has already been added.
-/
module

public import Mathlib.Data.BitVec

@[expose] public section

namespace Cert.Sampling

/-- A pair of words: the cipher's state. -/
abbrev Pair := BitVec 32 × BitVec 32

/-- One round: the first word takes the sum, the second is rotated left by `l` (`r` is `32 - l`) and xored with that sum. -/
def rnd (l r : BitVec 32) (p : Pair) : Pair :=
  (p.1 + p.2, (p.1 + p.2) ^^^ ((p.2 <<< l) ||| (p.2 >>> r)))

/-- A key injection: `a` onto the first word, `b` onto the second. -/
def inj (a b : BitVec 32) (p : Pair) : Pair := (p.1 + a, p.2 + b)

/-- Four rounds with the first set of rotations. -/
def fourA (p : Pair) : Pair := rnd 6#32 26#32 (rnd 26#32 6#32 (rnd 15#32 17#32 (rnd 13#32 19#32 p)))

/-- Four rounds with the second set of rotations. -/
def fourB (p : Pair) : Pair := rnd 24#32 8#32 (rnd 16#32 16#32 (rnd 29#32 3#32 (rnd 17#32 15#32 p)))

/-- The state after the first injection, the second, the third and so on: `x` is the second word plus 42. -/
def st1 (x : BitVec 32) : Pair := inj 42#32 466689009#32 (fourA (0#32, x))
def st2 (x : BitVec 32) : Pair := inj 466689008#32 2#32 (fourB (st1 x))
def st3 (x : BitVec 32) : Pair := inj 0#32 45#32 (fourA (st2 x))
def st4 (x : BitVec 32) : Pair := inj 42#32 466689012#32 (fourB (st3 x))
def st5 (x : BitVec 32) : Pair := inj 466689008#32 5#32 (fourA (st4 x))

/-- The random word at a counter: the two words of the cipher xored. -/
def word (x : BitVec 32) : BitVec 32 := (st5 x).1 ^^^ (st5 x).2

/-- Its top 23 bits as the fraction of a float of exponent zero: the pattern of a float in [1, 2). -/
def pattern (x : BitVec 32) : BitVec 32 := (word x >>> 9#32) ||| 1065353216#32

end Cert.Sampling
-- ==== Proof.Score.lean ====
/-
  The candidate value of a category: its logit minus the logarithm of minus the logarithm of a uniform number, that number
  read off the cipher's word at the category's counter. Over the extended reals.
-/
module

public import proofs.«01_k».proof.Proof.Threefry
public import Idealize.ShloMosaic.PureOps.Ideal

@[expose] public section

noncomputable section

namespace Cert.Sampling

open Idealize.ShloMosaic

/-- The uniform number at counter `x`: the float of the pattern, minus one; a multiple of 2⁻²³ in [0, 1). -/
def unif (x : BitVec 32) : EReal := Ideal.ofBits .f32 (pattern x) - Ideal.ofBits .f32 0x3F800000#32

/-- Minus the Gumbel noise at a uniform number. -/
def antiGumbel (u : EReal) : EReal := Ideal.log (-(Ideal.log u))

/-- The candidate value of a category with logit `l` at counter `x`. -/
def score (l : EReal) (x : BitVec 32) : EReal := l - antiGumbel (unif x)

/-- The candidate values of row `r` of a 128 by 100000 matrix of logits, by category: category `k` of row `r` has the
    counter `100000 r + k`, and 42, the second key word, is added to it. Beyond the last category a value never read. -/
def candidate (A : (⟨2, ![128, 100000]⟩ : Shape).Idx → EReal) (r : Fin 128) (k : ℕ) : EReal :=
  if h : k < 100000 then
    score (A (Shape.pair (d := ![128, 100000]) (r : Fin 128) (⟨k, h⟩ : Fin 100000))) (BitVec.ofNat 32 (r.val * 100000 + k + 42))
  else ⊥

theorem candidate_of_lt (A : (⟨2, ![128, 100000]⟩ : Shape).Idx → EReal) (r : Fin 128) (k : ℕ) (h : k < 100000) :
    candidate A r k = score (A (Shape.pair (d := ![128, 100000]) (r : Fin 128) (⟨k, h⟩ : Fin 100000)))
      (BitVec.ofNat 32 (r.val * 100000 + k + 42)) := dif_pos h

end Cert.Sampling

end
-- ==== Proof.Trip.lean ====
/-
  One trip of the kernel's loop, read lane by lane: the printed vector operations of the trip compute, at every lane, the
  cipher's word at that lane's counter, and from it the candidate value that the running maximum is compared with.
-/
module

public import proofs.«01_k».proof.Proof.Score
public import proofs.«01_k».proof.Proof.Gen.KernelIdeal.Loops
public import Idealize.ShloMosaic.Lib.Tactic
public import Idealize.ShloMosaic.Lib.Pipeline.Value

@[expose] public section

noncomputable section

namespace Cert.KernelIdeal.Value

open Idealize.ShloMosaic Idealize.ShloMosaic.TcCoe Idealize.SL.Sem
open Cert.KernelIdeal Cert.KernelIdeal.Gen Cert.Sampling

/-! ## The cipher's rounds -/

section Rounds
variable (a v w : IVec S40x128 32) (j : S40x128.Idx)

theorem round1 : (a j, k0_pay7 a j) = rnd 13#32 19#32 (0#32, a j) := by
  refine Prod.ext (BitVec.zero_add _).symm ?_
  show ((a j <<< 13#32) ||| (a j >>> 19#32)) ^^^ a j = (0#32 + a j) ^^^ ((a j <<< 13#32) ||| (a j >>> 19#32))
  rw [BitVec.zero_add, BitVec.xor_comm]

theorem round2 : (k0_pay8 a j, k0_pay9 a j) = rnd 15#32 17#32 (a j, k0_pay7 a j) := rfl
theorem round3 : (k0_pay10 a j, k0_pay11 a j) = rnd 26#32 6#32 (k0_pay8 a j, k0_pay9 a j) := rfl
theorem inject1 : (k0_pay12 a j + 42#32, k0_pay13 a j)
    = inj 42#32 466689009#32 (rnd 6#32 26#32 (k0_pay10 a j, k0_pay11 a j)) := rfl
theorem round5 : (k0_pay14 a j, k0_pay15 a j) = rnd 17#32 15#32 (k0_pay12 a j + 42#32, k0_pay13 a j) := rfl
theorem round6 : (k0_pay16 a j, k0_pay17 a j) = rnd 29#32 3#32 (k0_pay14 a j, k0_pay15 a j) := rfl

/-- The state after six rounds, which the first part of the trip hands to the second. -/
theorem part1 : (k0_pay16 a j, k0_pay17 a j) = rnd 29#32 3#32 (rnd 17#32 15#32 (st1 (a j))) := by
  rw [round6, round5, inject1, round3, round2, round1]; rfl

theorem round7 : (k0_pay18 v w j, k0_pay19 v w j) = rnd 16#32 16#32 (v j, w j) := rfl
theorem inject2 : (k0_pay20 v w j + 466689008#32, k0_pay21 v w j)
    = inj 466689008#32 2#32 (rnd 24#32 8#32 (k0_pay18 v w j, k0_pay19 v w j)) := rfl
theorem round9 : (k0_pay22 v w j, k0_pay23 v w j) = rnd 13#32 19#32 (k0_pay20 v w j + 466689008#32, k0_pay21 v w j) := rfl
theorem round10 : (k0_pay24 v w j, k0_pay25 v w j) = rnd 15#32 17#32 (k0_pay22 v w j, k0_pay23 v w j) := rfl
theorem round11 : (k0_pay26 v w j, k0_pay27 v w j) = rnd 26#32 6#32 (k0_pay24 v w j, k0_pay25 v w j) := rfl
theorem round12 : (k0_pay28 v w j, k0_pay29 v w j) = rnd 6#32 26#32 (k0_pay26 v w j, k0_pay27 v w j) := rfl

/-- The state after twelve rounds, before the third injection. -/
theorem part2 (x : BitVec 32) (h : (v j, w j) = rnd 29#32 3#32 (rnd 17#32 15#32 (st1 x))) :
    (k0_pay28 v w j, k0_pay29 v w j) = fourA (st2 x) := by
  rw [round12, round11, round10, round9, inject2, round7, h]; rfl

theorem inject3 : (v j, k0_pay30 w j) = inj 0#32 45#32 (v j, w j) :=
  Prod.ext (BitVec.add_zero _).symm rfl
theorem round13 : (k0_pay31 v w j, k0_pay32 v w j) = rnd 17#32 15#32 (v j, k0_pay30 w j) := rfl
theorem round14 : (k0_pay33 v w j, k0_pay34 v w j) = rnd 29#32 3#32 (k0_pay31 v w j, k0_pay32 v w j) := rfl
theorem round15 : (k0_pay35 v w j, k0_pay36 v w j) = rnd 16#32 16#32 (k0_pay33 v w j, k0_pay34 v w j) := rfl
theorem inject4 : (k0_pay37 v w j + 42#32, k0_pay38 v w j)
    = inj 42#32 466689012#32 (rnd 24#32 8#32 (k0_pay35 v w j, k0_pay36 v w j)) := rfl
theorem round17 : (k0_pay39 v w j, k0_pay40 v w j) = rnd 13#32 19#32 (k0_pay37 v w j + 42#32, k0_pay38 v w j) := rfl

/-- The state after seventeen rounds, which the third part of the trip hands to the fourth. -/
theorem part3 (x : BitVec 32) (h : (v j, w j) = fourA (st2 x)) :
    (k0_pay39 v w j, k0_pay40 v w j) = rnd 13#32 19#32 (st4 x) := by
  rw [round17, inject4, round15, round14, round13, inject3, h]; rfl

end Rounds

/-! ## The candidate value, and the trip -/

/-- One round on whole vectors, in the operations the kernel prints. -/
def rndV (l r : BitVec 32) (p : IVec S40x128 32 × IVec S40x128 32) : IVec S40x128 32 × IVec S40x128 32 :=
  (addi p.1 p.2, xori (addi p.1 p.2) (ori (shli p.2 (broadcast S40x128 l)) (shrui p.2 (broadcast S40x128 r))))

/-- The last two rounds, the last injection and the xor of the two words. -/
def lastV (p : IVec S40x128 32 × IVec S40x128 32) : IVec S40x128 32 :=
  xori (addi (rndV 6#32 26#32 (rndV 26#32 6#32 p)).1 (broadcast S40x128 466689008#32))
    (addi (rndV 6#32 26#32 (rndV 26#32 6#32 p)).2 (broadcast S40x128 5#32))

theorem rndV13 (p : IVec S40x128 32 × IVec S40x128 32) (j : S40x128.Idx) :
    ((rndV 26#32 6#32 p).1 j, (rndV 26#32 6#32 p).2 j) = rnd 26#32 6#32 (p.1 j, p.2 j) := rfl

theorem rndV6 (p : IVec S40x128 32 × IVec S40x128 32) (j : S40x128.Idx) :
    ((rndV 6#32 26#32 p).1 j, (rndV 6#32 26#32 p).2 j) = rnd 6#32 26#32 (p.1 j, p.2 j) := rfl

/-- The state after eighteen rounds. -/
abbrev after18 (v w : IVec S40x128 32) : IVec S40x128 32 × IVec S40x128 32 :=
  (k0_pay41 v w, xori (k0_pay41 v w) (ori (k0_pay42 v w) (shrui (k0_pay40 v w) k0_pay43)))

theorem round18 (v w : IVec S40x128 32) (j : S40x128.Idx) :
    ((after18 v w).1 j, (after18 v w).2 j) = rnd 15#32 17#32 (k0_pay39 v w j, k0_pay40 v w j) := rfl

theorem lastV_apply (p : IVec S40x128 32 × IVec S40x128 32) (j : S40x128.Idx) :
    lastV p j = ((rndV 6#32 26#32 (rndV 26#32 6#32 p)).1 j + 466689008#32)
      ^^^ ((rndV 6#32 26#32 (rndV 26#32 6#32 p)).2 j + 5#32) := rfl

/-- The word of the cipher at a lane whose counter is `x`. -/
theorem lastV_eq (v w : IVec S40x128 32) (j : S40x128.Idx) (x : BitVec 32)
    (h : (k0_pay39 v w j, k0_pay40 v w j) = rnd 13#32 19#32 (st4 x)) : lastV (after18 v w) j = word x := by
  have e : ((rndV 6#32 26#32 (rndV 26#32 6#32 (after18 v w))).1 j, (rndV 6#32 26#32 (rndV 26#32 6#32 (after18 v w))).2 j)
      = fourA (st4 x) := by
    rw [rndV6, rndV13, round18, h]; rfl
  have e1 := congrArg Prod.fst e
  have e2 := congrArg Prod.snd e
  dsimp only at e1 e2
  rw [lastV_apply, e1, e2]
  rfl

/-- The candidate value from the cipher's words and the logits, in the operations the kernel prints. -/
def candV (W : IVec S40x128 32) (X : FVec Ideal S40x128 .f32) : FVec Ideal S40x128 .f32 :=
  subf X (log (subf (broadcast S40x128 (Scalar.ofBits (F := Ideal) .f32 0x00000000#32))
    (log (subf (bitcastToFloat (F := Ideal) .f32 (ori (shrui W (broadcast S40x128 9#32)) (broadcast S40x128 1065353216#32)))
      (broadcast S40x128 (Scalar.ofBits (F := Ideal) .f32 0x3F800000#32))))))

theorem candV_apply (W : IVec S40x128 32) (X : FVec Ideal S40x128 .f32) (j : S40x128.Idx) :
    candV W X j = X j - Ideal.log (Ideal.ofBits .f32 0x00000000#32 - Ideal.log
      (Ideal.ofBits .f32 ((W j >>> 9#32) ||| 1065353216#32) - Ideal.ofBits .f32 0x3F800000#32)) := rfl

theorem pay44_eq (v w : IVec S40x128 32) (X : Vec Ideal S40x128 .f32) :
    k0_pay44 (F := Ideal) (k0_pay40 v w) (k0_pay41 v w) (k0_pay42 v w) k0_pay43 X = candV (lastV (after18 v w)) X := by
  unfold k0_pay44 candV lastV rndV
  simp only [shapeCast_self]

theorem ofBits_zero : Ideal.ofBits .f32 0x00000000#32 = 0 := by simp [Ideal.ofBits, Ideal.ieee]

/-- The trip's candidate value at a lane whose counter is `x`. -/
theorem part4 (v w : IVec S40x128 32) (X : Vec Ideal S40x128 .f32) (j : S40x128.Idx) (x : BitVec 32)
    (h : (k0_pay39 v w j, k0_pay40 v w j) = rnd 13#32 19#32 (st4 x)) :
    k0_pay44 (F := Ideal) (k0_pay40 v w) (k0_pay41 v w) (k0_pay42 v w) k0_pay43 X j = score (X j) x := by
  rw [pay44_eq, candV_apply, lastV_eq v w j x h, ofBits_zero, zero_sub]; rfl

/-- The candidate values one trip computes, from the counters it carries and the chunk of logits it loads. -/
abbrev cand (a : IVec S40x128 32) (X : Vec Ideal S40x128 .f32) : Vec Ideal S40x128 .f32 :=
  k0_pay44 (F := Ideal)
    (k0_pay40 (k0_pay28 (k0_pay16 a) (k0_pay17 a)) (k0_pay29 (k0_pay16 a) (k0_pay17 a)))
    (k0_pay41 (k0_pay28 (k0_pay16 a) (k0_pay17 a)) (k0_pay29 (k0_pay16 a) (k0_pay17 a)))
    (k0_pay42 (k0_pay28 (k0_pay16 a) (k0_pay17 a)) (k0_pay29 (k0_pay16 a) (k0_pay17 a)))
    k0_pay43 X

theorem cand_apply (a : IVec S40x128 32) (X : Vec Ideal S40x128 .f32) (j : S40x128.Idx) :
    cand a X j = score (X j) (a j) :=
  part4 _ _ X j (a j) (part3 _ _ j (a j) (part2 _ _ j (a j) (part1 a j)))

/-- The chunk of logits trip `k` loads from the block's contents. -/
abbrev chunk (arg1 : Memref sig .tc .vmem S4000x128 .f32) (X : BufTy.Contents (Elt Ideal) arg1.view.ty) (k : Fin k0_t1_loop.trips) :
    Vec Ideal S40x128 .f32 :=
  View.readAt (Elt Ideal) arg1.view (Rect.unit (s := S4000x128) (k0_off1 k) S40x128.size (k0_off1_inb k)).toLoadRect X

/-- What trip `k` yields, as the operations it runs. -/
theorem trip_eq (𝒱 : Variants) (c : Dev nD) (bd : Option 𝒱.V) (i : grid0.Coords) (arg1 : Memref sig .tc .vmem S4000x128 .f32)
    (harg1 : arg1.IsWhole) (arg2 : Memref sig .tc .vmem S1x128 .i32) (harg2 : arg2.IsWhole)
    (arg3 : Memref sig .tc .vmem S40x128 .f32) (harg3 : arg3.IsWhole) (arg4 : Memref sig .tc .vmem S40x128 .i32)
    (harg4 : arg4.IsWhole) (arg0 : BitVec 32) (X : BufTy.Contents (Elt Ideal) arg1.view.ty) (k : Fin k0_t1_loop.trips)
    (acc : Vec Ideal S40x128 .f32 × Vec Ideal S40x128 .i32 × IVec S40x128 32) :
    tripR_k0_t1 (F := Ideal) 𝒱 c bd i arg1 harg1 arg2 harg2 arg3 harg3 arg4 harg4 arg0 X k acc
      = (k0_pay45 (F := Ideal) acc.1
          (k0_pay40 (k0_pay28 (k0_pay16 acc.2.2) (k0_pay17 acc.2.2)) (k0_pay29 (k0_pay16 acc.2.2) (k0_pay17 acc.2.2)))
          (k0_pay41 (k0_pay28 (k0_pay16 acc.2.2) (k0_pay17 acc.2.2)) (k0_pay29 (k0_pay16 acc.2.2) (k0_pay17 acc.2.2)))
          (k0_pay42 (k0_pay28 (k0_pay16 acc.2.2) (k0_pay17 acc.2.2)) (k0_pay29 (k0_pay16 acc.2.2) (k0_pay17 acc.2.2)))
          k0_pay43 (chunk arg1 X k),
         k0_pay46 (F := Ideal) arg0 acc.1 acc.2.1 (Scf.iv 0#32 1#32 k)
          (k0_pay40 (k0_pay28 (k0_pay16 acc.2.2) (k0_pay17 acc.2.2)) (k0_pay29 (k0_pay16 acc.2.2) (k0_pay17 acc.2.2)))
          (k0_pay41 (k0_pay28 (k0_pay16 acc.2.2) (k0_pay17 acc.2.2)) (k0_pay29 (k0_pay16 acc.2.2) (k0_pay17 acc.2.2)))
          (k0_pay42 (k0_pay28 (k0_pay16 acc.2.2) (k0_pay17 acc.2.2)) (k0_pay29 (k0_pay16 acc.2.2) (k0_pay17 acc.2.2)))
          k0_pay43 (chunk arg1 X k),
         k0_pay47 acc.2.2) := by
  unfold tripR_k0_t1 trip_k0_t1
  rfl

end Cert.KernelIdeal.Value

end
-- ==== Proof.Cases.lean ====
/-
  What one grid point leaves: the running maximum and chunk number in the scratch buffers after the hundred trips, and at
  the last point the result row.
-/
module

public import proofs.«01_k».proof.Proof.Trip
public import proofs.«01_k».proof.Proof.Gen.KernelIdeal.Frame
public import Idealize.ShloMosaic.Lib.Tactic

@[expose] public section

noncomputable section

namespace Cert.KernelIdeal.Value

open Idealize.ShloMosaic Idealize.ShloMosaic.TcCoe Idealize.SL.Sem
open Cert.KernelIdeal Cert.KernelIdeal.Gen Cert.Sampling

variable (c : Dev nD) (i : grid0.Coords) (arg1 : Memref sig .tc .vmem S4000x128 .f32) (harg1 : arg1.IsWhole)
  (arg2 : Memref sig .tc .vmem S1x128 .i32) (harg2 : arg2.IsWhole) (arg3 : Memref sig .tc .vmem S40x128 .f32) (harg3 : arg3.IsWhole)
  (arg4 : Memref sig .tc .vmem S40x128 .i32) (harg4 : arg4.IsWhole)

theorem zz : (![0, 0] : Fin 2 → Nat) = fun _ => 0 := funext fun a => by fin_cases a <;> rfl

/-- What the hundred trips of a grid point carry at the end, from the scratch contents they start with. -/
abbrev swept (x : Vec Ideal S4000x128 .f32) (s : Vec Ideal S40x128 .f32) (n : Vec Ideal S40x128 .i32) :
    Vec Ideal S40x128 .f32 × Vec Ideal S40x128 .i32 × IVec S40x128 32 :=
  st_k0_t1 (F := Ideal) Variants.none c none i arg1 harg1 arg2 harg2 arg3 harg3 arg4 harg4 (BitVec.ofNat 32 (i 0).val)
    (harg1.unread x) (s, n, k0_pay3 i) k0_t1_loop.trips

/-- At the first point the scratch of the running maximum ends at what the trips carry, started from the reset values. -/
theorem sout_A_0 (hc0 : cond0_0 i) (hc1 : ¬cond0_1 i) (x : Vec Ideal S4000x128 .f32) :
    sout0_A_0 c i arg1 harg1 arg2 harg2 arg3 harg3 arg4 harg4 hc0 hc1 x
      = (swept c i arg1 harg1 arg2 harg2 arg3 harg3 arg4 harg4 x (k0_pay1 (F := Ideal)) k0_pay2).1 := by
  unfold sout0_A_0
  rw [View.read_writes_eq_canon _ _ _ (scover0_A_0 c i arg1 harg1 arg2 harg2 arg3 harg3 arg4 harg4 hc0 hc1 x)]
  unfold kernelRun0_A
  dsimp only
  sl_unfold_run_names
  rw [View.canon_cons_unit_zero (S := S40x128) zz]
  unfold k0_pay4
  simp only [View.readCov_unit_zero (S := S40x128) _ zz, shapeCast_self]

/-- At the first point the scratch of the chunk number ends at what the trips carry, started from the reset values. -/
theorem sout_A_1 (hc0 : cond0_0 i) (hc1 : ¬cond0_1 i) (x : Vec Ideal S4000x128 .f32) :
    sout0_A_1 c i arg1 harg1 arg2 harg2 arg3 harg3 arg4 harg4 hc0 hc1 x
      = (swept c i arg1 harg1 arg2 harg2 arg3 harg3 arg4 harg4 x (k0_pay1 (F := Ideal)) k0_pay2).2.1 := by
  unfold sout0_A_1
  rw [View.read_writes_eq_canon _ _ _ (scover0_A_1 c i arg1 harg1 arg2 harg2 arg3 harg3 arg4 harg4 hc0 hc1 x)]
  unfold kernelRun0_A
  dsimp only
  sl_unfold_run_names
  rw [View.canon_cons_unit_zero (S := S40x128) zz]
  unfold k0_pay5
  simp only [View.readCov_unit_zero (S := S40x128) _ zz, shapeCast_self]

/-- At a middle point the scratch of the running maximum ends at what the trips carry, started from what the point before left. -/
theorem sout_B_0 (hc0 : ¬cond0_0 i) (hc1 : ¬cond0_1 i) (x : Vec Ideal S4000x128 .f32) (s : Vec Ideal S40x128 .f32)
    (n : Vec Ideal S40x128 .i32) :
    sout0_B_0 c i arg1 harg1 arg2 harg2 arg3 harg3 arg4 harg4 hc0 hc1 x s n
      = (swept c i arg1 harg1 arg2 harg2 arg3 harg3 arg4 harg4 x s n).1 := by
  unfold sout0_B_0
  rw [View.read_writes_eq_canon _ _ _ (scover0_B_0 c i arg1 harg1 arg2 harg2 arg3 harg3 arg4 harg4 hc0 hc1 x s n)]
  unfold kernelRun0_B
  dsimp only
  sl_unfold_run_names
  rw [View.canon_unit_zero zz]
  unfold k0_pay4
  simp only [View.readAt_eq_ld, harg3.read_unread, harg4.read_unread, View.ld_unit_zero (S := S40x128) zz, shapeCast_self]

/-- At a middle point the scratch of the chunk number ends at what the trips carry, started from what the point before left. -/
theorem sout_B_1 (hc0 : ¬cond0_0 i) (hc1 : ¬cond0_1 i) (x : Vec Ideal S4000x128 .f32) (s : Vec Ideal S40x128 .f32)
    (n : Vec Ideal S40x128 .i32) :
    sout0_B_1 c i arg1 harg1 arg2 harg2 arg3 harg3 arg4 harg4 hc0 hc1 x s n
      = (swept c i arg1 harg1 arg2 harg2 arg3 harg3 arg4 harg4 x s n).2.1 := by
  unfold sout0_B_1
  rw [View.read_writes_eq_canon _ _ _ (scover0_B_1 c i arg1 harg1 arg2 harg2 arg3 harg3 arg4 harg4 hc0 hc1 x s n)]
  unfold kernelRun0_B
  dsimp only
  sl_unfold_run_names
  rw [View.canon_unit_zero zz]
  unfold k0_pay5
  simp only [View.readAt_eq_ld, harg3.read_unread, harg4.read_unread, View.ld_unit_zero (S := S40x128) zz, shapeCast_self]

/-- At the last point the scratch of the running maximum ends at what the trips carry, started from what the point before left. -/
theorem sout_C_0 (hc0 : ¬cond0_0 i) (hc1 : cond0_1 i) (x : Vec Ideal S4000x128 .f32) (s : Vec Ideal S40x128 .f32)
    (n : Vec Ideal S40x128 .i32) :
    sout0_C_0 c i arg1 harg1 arg2 harg2 arg3 harg3 arg4 harg4 hc0 hc1 x s n
      = (swept c i arg1 harg1 arg2 harg2 arg3 harg3 arg4 harg4 x s n).1 := by
  unfold sout0_C_0
  rw [View.read_writes_eq_canon _ _ _ (scover0_C_0 c i arg1 harg1 arg2 harg2 arg3 harg3 arg4 harg4 hc0 hc1 x s n)]
  unfold kernelRun0_C
  dsimp only
  sl_unfold_run_names
  rw [View.canon_unit_zero zz]
  unfold k0_pay4
  simp only [View.readAt_eq_ld, harg3.read_unread, harg4.read_unread, View.ld_unit_zero (S := S40x128) zz, shapeCast_self]

/-- At the last point the scratch of the chunk number ends at what the trips carry, started from what the point before left. -/
theorem sout_C_1 (hc0 : ¬cond0_0 i) (hc1 : cond0_1 i) (x : Vec Ideal S4000x128 .f32) (s : Vec Ideal S40x128 .f32)
    (n : Vec Ideal S40x128 .i32) :
    sout0_C_1 c i arg1 harg1 arg2 harg2 arg3 harg3 arg4 harg4 hc0 hc1 x s n
      = (swept c i arg1 harg1 arg2 harg2 arg3 harg3 arg4 harg4 x s n).2.1 := by
  unfold sout0_C_1
  rw [View.read_writes_eq_canon _ _ _ (scover0_C_1 c i arg1 harg1 arg2 harg2 arg3 harg3 arg4 harg4 hc0 hc1 x s n)]
  unfold kernelRun0_C
  dsimp only
  sl_unfold_run_names
  rw [View.canon_unit_zero zz]
  unfold k0_pay5
  simp only [View.readAt_eq_ld, harg3.read_unread, harg4.read_unread, View.ld_unit_zero (S := S40x128) zz, shapeCast_self]

/-- At the last point the result row is the final selection over what the trips carry. -/
theorem out_C (hc0 : ¬cond0_0 i) (hc1 : cond0_1 i) (x : Vec Ideal S4000x128 .f32) (s : Vec Ideal S40x128 .f32)
    (n : Vec Ideal S40x128 .i32) :
    out0_C_1 c i arg1 harg1 arg2 harg2 arg3 harg3 arg4 harg4 hc0 hc1 x s n
      = k0_pay6 (F := Ideal) (swept c i arg1 harg1 arg2 harg2 arg3 harg3 arg4 harg4 x s n).1 (swept c i arg1 harg1 arg2 harg2 arg3 harg3 arg4 harg4 x s n).2.1 := by
  unfold out0_C_1
  rw [View.read_writes_eq_canon _ _ _ (cover0_C_1 c i arg1 harg1 arg2 harg2 arg3 harg3 arg4 harg4 hc0 hc1 x s n)]
  unfold kernelRun0_C
  dsimp only
  sl_unfold_run_names
  rw [View.canon_unit_zero zz]
  simp only [View.readAt_eq_ld, harg3.read_unread, harg4.read_unread, View.ld_unit_zero (S := S40x128) zz]

end Cert.KernelIdeal.Value

end
-- ==== Proof.Track.lean ====
/-
  The first place of a maximum. `track f n` is what a scan keeps of the values `f 0, …, f (n - 1)`: the greatest so far and,
  as a word, the place it was first met. Forty such scans, one for each residue, give the first place of the whole.
-/
module

public import Mathlib.Data.EReal.Basic
public import Mathlib.Data.BitVec
public import Mathlib.Data.Finset.Fold
public import Mathlib.Data.Finset.Max

@[expose] public section

namespace Cert.Sampling

/-- The greatest value among the first `n` and the place it was first met, kept as the scan goes. -/
noncomputable def track (f : ℕ → EReal) : ℕ → EReal × BitVec 32
  | 0 => (⊥, 0#32)
  | n + 1 => (max (track f n).1 (f n), if (track f n).1 < f n then BitVec.ofNat 32 n else (track f n).2)

/-- `c` is the first place below `n` at which `f` is greatest. -/
def IsFirst (f : ℕ → EReal) (n c : ℕ) : Prop :=
  c < n ∧ (∀ k < n, f k ≤ f c) ∧ ∀ k < c, f k < f c

/-- The first place of the greatest value is one place. -/
theorem IsFirst.unique {f : ℕ → EReal} {n c d : ℕ} (hc : IsFirst f n c) (hd : IsFirst f n d) : c = d := by
  rcases lt_trichotomy c d with h | h | h
  · exact absurd (hd.2.2 c h) (not_lt.2 (hc.2.1 d hd.1))
  · exact h
  · exact absurd (hc.2.2 d h) (not_lt.2 (hd.2.1 c hc.1))

/-- The scan keeps the first place of the greatest value. -/
theorem track_isFirst (f : ℕ → EReal) (n : ℕ) :
    ∃ a, IsFirst f (n + 1) a ∧ track f (n + 1) = (f a, BitVec.ofNat 32 a) := by
  induction n with
  | zero =>
    refine ⟨0, ⟨by omega, fun k hk => ?_, fun k hk => absurd hk (by omega)⟩, ?_⟩
    · rw [show k = 0 by omega]
    · show (max ⊥ (f 0), if ⊥ < f 0 then BitVec.ofNat 32 0 else 0#32) = _
      rw [max_eq_right bot_le, ite_self]
  | succ n ih =>
    obtain ⟨a, ⟨ha, hle, hlt⟩, he⟩ := ih
    have hs : track f (n + 1 + 1) = (max (f a) (f (n + 1)), if f a < f (n + 1) then BitVec.ofNat 32 (n + 1) else BitVec.ofNat 32 a) := by
      rw [track, he]
    by_cases h : f a < f (n + 1)
    · refine ⟨n + 1, ⟨by omega, fun k hk => ?_, fun k hk => lt_of_le_of_lt (hle k hk) h⟩, ?_⟩
      · rcases Nat.lt_succ_iff_lt_or_eq.1 hk with hk | rfl
        · exact (lt_of_le_of_lt (hle k hk) h).le
        · exact le_rfl
      · rw [hs, if_pos h, max_eq_right h.le]
    · refine ⟨a, ⟨by omega, fun k hk => ?_, hlt⟩, ?_⟩
      · rcases Nat.lt_succ_iff_lt_or_eq.1 hk with hk | rfl
        · exact hle k hk
        · exact not_lt.1 h
      · rw [hs, if_neg h, max_eq_left (not_lt.1 h)]

/-- Of forty scans over the residues, the least place `40 n + s` at which a scan ends at the overall maximum `m` is the first
    place of the greatest value of all. -/
theorem isFirst_of_residues (f : ℕ → EReal) (n : ℕ) (a : ℕ → ℕ) (ha : ∀ s < 40, IsFirst (fun k => f (40 * k + s)) n (a s))
    (m : EReal) (hm : ∀ s < 40, f (40 * a s + s) ≤ m) (s : ℕ) (hs : s < 40) (hsm : f (40 * a s + s) = m)
    (hmin : ∀ s' < 40, f (40 * a s' + s') = m → 40 * a s + s ≤ 40 * a s' + s') :
    IsFirst f (40 * n) (40 * a s + s) := by
  have key : ∀ k < 40 * n, k / 40 < n ∧ k % 40 < 40 ∧ 40 * (k / 40) + k % 40 = k := fun k hk => by omega
  have hle : ∀ k < 40 * n, f k ≤ f (40 * a (k % 40) + k % 40) := fun k hk => by
    obtain ⟨h1, h2, h3⟩ := key k hk
    have := (ha _ h2).2.1 _ h1
    simp only [h3] at this
    exact this
  have hb := (ha s hs).1
  refine ⟨by omega, fun k hk => ?_, fun k hk => ?_⟩
  · rw [hsm]; exact (hle k hk).trans (hm _ (key k hk).2.1)
  · have hk' : k < 40 * n := by omega
    obtain ⟨h1, h2, h3⟩ := key k hk'
    rw [hsm]
    refine lt_of_le_of_ne ((hle k hk').trans (hm _ h2)) fun he => ?_
    have e2 : f (40 * a (k % 40) + k % 40) = m := le_antisymm (hm _ h2) (he ▸ hle k hk')
    have h4 := hmin _ h2 e2
    have h5 : k / 40 < a (k % 40) := by omega
    have h6 := (ha _ h2).2.2 _ h5
    simp only [h3] at h6
    rw [e2, he] at h6
    exact lt_irrefl _ h6

/-- The first place below `n` at which `f` is greatest. -/
noncomputable def argFirst (f : ℕ → EReal) (n : ℕ) : ℕ := Classical.epsilon (IsFirst f n)

theorem IsFirst.argFirst_eq {f : ℕ → EReal} {n k : ℕ} (h : IsFirst f n k) : argFirst f n = k :=
  (Classical.epsilon_spec (p := IsFirst f n) ⟨k, h⟩).unique h

end Cert.Sampling
-- ==== Proof.Sweep.lean ====
/-
  The trips of a grid point at one lane: from the scan's state before the point's chunks to its state after them.
-/
module

public import proofs.«01_k».proof.Proof.Trip
public import proofs.«01_k».proof.Proof.Track

@[expose] public section

noncomputable section

namespace Cert.KernelIdeal.Value

open Idealize.ShloMosaic Idealize.ShloMosaic.TcCoe Idealize.SL.Sem
open Cert.KernelIdeal Cert.KernelIdeal.Gen Cert.Sampling

/-- A choice on an ordered greater-than. -/
theorem select_gt (x y : EReal) {α : Type} (a b : α) : Scalar.select (Ideal.cmp .ogt x y) a b = if y < x then a else b := by
  by_cases h : y < x <;> simp [Scalar.select, Ideal.cmp, h]

/-- The loop runs a hundred trips. -/
theorem trips_eq : k0_t1_loop.trips = 100 := by decide

/-- The cell of the block that lane `j` of chunk `k` reads. -/
def cell (k : Fin k0_t1_loop.trips) (j : S40x128.Idx) : S4000x128.Idx :=
  Shape.pair (⟨40 * k.val + (j 0).val, by
    have h1 : (j 0).val < 40 := (j 0).isLt
    have h2 : k.val < 100 := trips_eq ▸ k.isLt
    show _ < 4000
    omega⟩ : Fin 4000) (j 1 : Fin 128)

/-- What trip `k` loads at lane `j` is the block's cell there. -/
theorem chunk_apply (arg1 : Memref sig .tc .vmem S4000x128 .f32) (harg1 : arg1.IsWhole) (x : Vec Ideal S4000x128 .f32)
    (k : Fin k0_t1_loop.trips) (j : S40x128.Idx) : chunk arg1 (harg1.unread x) k j = x (cell k j) := by
  unfold chunk
  rw [View.readAt_eq_ld, harg1.read_unread]
  show x _ = x _
  congr 1
  funext a
  apply Fin.ext
  fin_cases a
  · show k0_off1 k 0 + 1 * (j 0).val = 40 * k.val + (j 0).val
    rw [k0_off1_eq]
    simp
  · show k0_off1 k 1 + 1 * (j 1).val = (j 1).val
    rw [k0_off1_eq]
    simp

variable (c : Dev nD) (i : grid0.Coords) (arg1 : Memref sig .tc .vmem S4000x128 .f32) (harg1 : arg1.IsWhole)
  (arg2 : Memref sig .tc .vmem S1x128 .i32) (harg2 : arg2.IsWhole) (arg3 : Memref sig .tc .vmem S40x128 .f32) (harg3 : arg3.IsWhole)
  (arg4 : Memref sig .tc .vmem S40x128 .i32) (harg4 : arg4.IsWhole)

/-- What trip `k` does at one lane to the running maximum, the chunk number kept with it and the counter. -/
theorem trip_lane (arg0 : BitVec 32) (X : BufTy.Contents (Elt Ideal) arg1.view.ty) (k : Fin k0_t1_loop.trips)
    (acc : Vec Ideal S40x128 .f32 × Vec Ideal S40x128 .i32 × IVec S40x128 32) (j : S40x128.Idx) :
    (tripR_k0_t1 (F := Ideal) Variants.none c none i arg1 harg1 arg2 harg2 arg3 harg3 arg4 harg4 arg0 X k acc).1 j
        = max (acc.1 j) (score (chunk arg1 X k j) (acc.2.2 j)) ∧
    (tripR_k0_t1 (F := Ideal) Variants.none c none i arg1 harg1 arg2 harg2 arg3 harg3 arg4 harg4 arg0 X k acc).2.1 j
        = (if acc.1 j < score (chunk arg1 X k j) (acc.2.2 j) then arg0 * 100#32 + Scf.iv 0#32 1#32 k else acc.2.1 j) ∧
    (tripR_k0_t1 (F := Ideal) Variants.none c none i arg1 harg1 arg2 harg2 arg3 harg3 arg4 harg4 arg0 X k acc).2.2 j
        = acc.2.2 j + 40#32 := by
  rw [trip_eq]
  have h := cand_apply acc.2.2 (chunk arg1 X k) j
  refine ⟨?_, ?_, rfl⟩
  · show max (acc.1 j) (cand acc.2.2 (chunk arg1 X k) j) = _
    rw [h]
  · show Scalar.select (Ideal.cmp .ogt (cand acc.2.2 (chunk arg1 X k) j) (acc.1 j)) (arg0 * 100#32 + Scf.iv 0#32 1#32 k) (acc.2.1 j) = _
    rw [h, select_gt]

/-- The chunk number trip `k` of block `n` writes. -/
theorem number_eq (n : ℕ) (k : Fin k0_t1_loop.trips) :
    BitVec.ofNat 32 n * 100#32 + Scf.iv 0#32 1#32 k = BitVec.ofNat 32 (100 * n + k.val) := by
  apply BitVec.eq_of_toNat_eq
  simp [Scf.iv]
  omega

/-- The trips at lane `j` carry the scan of `f` from place `100 i` on, if they start at its state there. -/
theorem sweep_lane (f : ℕ → EReal) (x : Vec Ideal S4000x128 .f32) (s : Vec Ideal S40x128 .f32) (n : Vec Ideal S40x128 .i32)
    (a : IVec S40x128 32) (j : S40x128.Idx)
    (hf : ∀ k : Fin k0_t1_loop.trips, score (x (cell k j)) (a j + BitVec.ofNat 32 (40 * k.val)) = f (100 * (i 0).val + k.val))
    (h0 : s j = (track f (100 * (i 0).val)).1) (h1 : n j = (track f (100 * (i 0).val)).2) (k : ℕ) (hk : k ≤ k0_t1_loop.trips) :
    (st_k0_t1 (F := Ideal) Variants.none c none i arg1 harg1 arg2 harg2 arg3 harg3 arg4 harg4 (BitVec.ofNat 32 (i 0).val)
        (harg1.unread x) (s, n, a) k).1 j = (track f (100 * (i 0).val + k)).1 ∧
    (st_k0_t1 (F := Ideal) Variants.none c none i arg1 harg1 arg2 harg2 arg3 harg3 arg4 harg4 (BitVec.ofNat 32 (i 0).val)
        (harg1.unread x) (s, n, a) k).2.1 j = (track f (100 * (i 0).val + k)).2 ∧
    (st_k0_t1 (F := Ideal) Variants.none c none i arg1 harg1 arg2 harg2 arg3 harg3 arg4 harg4 (BitVec.ofNat 32 (i 0).val)
        (harg1.unread x) (s, n, a) k).2.2 j = a j + BitVec.ofNat 32 (40 * k) := by
  induction k with
  | zero => exact ⟨h0, h1, (BitVec.add_zero _).symm⟩
  | succ k ih =>
    obtain ⟨i0, i1, i2⟩ := ih (by omega)
    have hs := st_k0_t1_succ (F := Ideal) Variants.none c none i arg1 harg1 arg2 harg2 arg3 harg3 arg4 harg4 (BitVec.ofNat 32 (i 0).val)
        (harg1.unread x) (s, n, a) ⟨k, by omega⟩
    simp only at hs
    rw [hs]
    obtain ⟨t0, t1, t2⟩ := trip_lane c i arg1 harg1 arg2 harg2 arg3 harg3 arg4 harg4 (BitVec.ofNat 32 (i 0).val)
        (harg1.unread x) ⟨k, by omega⟩ (st_k0_t1 (F := Ideal) Variants.none c none i arg1 harg1 arg2 harg2 arg3 harg3 arg4 harg4 (BitVec.ofNat 32 (i 0).val)
        (harg1.unread x) (s, n, a) k) j
    have hfk := hf ⟨k, by omega⟩
    simp only at hfk
    rw [chunk_apply, i2, i0, hfk] at t0 t1
    rw [number_eq, i1] at t1
    refine ⟨t0, t1, ?_⟩
    rw [t2, i2, BitVec.add_assoc]
    congr 1
    apply BitVec.eq_of_toNat_eq
    simp
    omega

end Cert.KernelIdeal.Value

end
-- ==== Proof.Final.lean ====
/-
  The last point's selection: over the forty residues of a row, the least category whose candidate value is the row's maximum.
-/
module

public import proofs.«01_k».proof.Proof.Sweep
public import Idealize.ShloMosaic.PureOps.Reduce
public import Idealize.ShloMosaic.Lib.Pipeline.Value

@[expose] public section

noncomputable section

namespace Cert.KernelIdeal.Value

open Idealize.ShloMosaic Idealize.ShloMosaic.TcCoe Idealize.SL.Sem
open Cert.KernelIdeal Cert.KernelIdeal.Gen Cert.Sampling

/-- The lane of sublane `s` and row `r`. -/
def lane (s : Fin 40) (r : Fin 128) : S40x128.Idx := Shape.pair (s : Fin 40) (r : Fin 128)

/-- A fold of the signed minimum over a list is no greater than any member and is a member or the start. -/
theorem foldl_minsi (x : Fin 40 → BitVec 32) (l : List (Fin 40)) (b : BitVec 32) :
    (l.foldl (fun r n => IntOp.minsi r (x n)) b).toInt ≤ b.toInt ∧
    (∀ n ∈ l, (l.foldl (fun r n => IntOp.minsi r (x n)) b).toInt ≤ (x n).toInt) ∧
    (l.foldl (fun r n => IntOp.minsi r (x n)) b = b ∨ ∃ n ∈ l, l.foldl (fun r n => IntOp.minsi r (x n)) b = x n) := by
  induction l generalizing b with
  | nil => exact ⟨le_rfl, by simp, .inl rfl⟩
  | cons n l ih =>
    obtain ⟨h1, h2, h3⟩ := ih (IntOp.minsi b (x n))
    simp only [List.foldl_cons]
    have hb : (IntOp.minsi b (x n)).toInt ≤ b.toInt ∧ (IntOp.minsi b (x n)).toInt ≤ (x n).toInt ∧
        (IntOp.minsi b (x n) = b ∨ IntOp.minsi b (x n) = x n) := by
      unfold IntOp.minsi
      by_cases h : b.slt (x n)
      · simp only [h, if_true]
        refine ⟨le_rfl, ?_, .inl trivial⟩
        rw [BitVec.slt, decide_eq_true_eq] at h
        omega
      · simp only [h]
        refine ⟨?_, le_rfl, .inr rfl⟩
        rw [BitVec.slt, decide_eq_true_eq] at h
        simp
        omega
    refine ⟨h1.trans hb.1, ?_, ?_⟩
    · intro p hp
      rcases List.mem_cons.1 hp with rfl | hp
      · exact h1.trans hb.2.1
      · exact h2 p hp
    · rcases h3 with h3 | ⟨p, hp, h3⟩
      · rcases hb.2.2 with h | h
        · exact .inl (h3.trans h)
        · exact .inr ⟨n, List.mem_cons_self, h3.trans h⟩
      · exact .inr ⟨p, List.mem_cons_of_mem _ hp, h3⟩

/-- A fold of the maximum over a list is no less than any member and is a member or the start. -/
theorem foldl_max (x : Fin 40 → EReal) (l : List (Fin 40)) (b : EReal) :
    (∀ n ∈ l, x n ≤ l.foldl (fun r n => max r (x n)) b) ∧ b ≤ l.foldl (fun r n => max r (x n)) b ∧
    (l.foldl (fun r n => max r (x n)) b = b ∨ ∃ n ∈ l, l.foldl (fun r n => max r (x n)) b = x n) := by
  induction l generalizing b with
  | nil => exact ⟨by simp, le_rfl, .inl rfl⟩
  | cons n l ih =>
    obtain ⟨h1, h2, h3⟩ := ih (max b (x n))
    simp only [List.foldl_cons]
    refine ⟨?_, (le_max_left _ _).trans h2, ?_⟩
    · intro p hp
      rcases List.mem_cons.1 hp with rfl | hp
      · exact (le_max_right _ _).trans h2
      · exact h1 p hp
    · rcases h3 with h3 | ⟨p, hp, h3⟩
      · rcases max_choice b (x n) with h | h
        · exact .inl (h3.trans h)
        · exact .inr ⟨n, List.mem_cons_self, h3.trans h⟩
      · exact .inr ⟨p, List.mem_cons_of_mem _ hp, h3⟩

/-- The maximum of each row over the sublanes. -/
def rowMax (v : Vec Ideal S40x128 .f32) (r : Fin 128) : EReal :=
  (List.finRange 40).foldl (fun acc s => max acc (v (lane s r))) ⊥

/-- The least category of each row among the sublanes that hold the row's maximum. -/
def rowPick (v : Vec Ideal S40x128 .f32) (n : Vec Ideal S40x128 .i32) (r : Fin 128) : BitVec 32 :=
  (List.finRange 40).foldl (fun acc s => IntOp.minsi acc
    (if v (lane s r) = rowMax v r then n (lane s r) * 40#32 + BitVec.ofNat 32 s.val else 2147483647#32)) 2147483647#32

theorem ofBits_neg_inf : Ideal.ofBits .f32 0xFF800000#32 = ⊥ := by simp [Ideal.ofBits, Ideal.ieee]

/-- The printed reduction of the running maxima is the row's maximum. -/
theorem reduce_max (v : Vec Ideal S40x128 .f32) (j : S128.Idx) :
    multiReduction (F := Ideal) .maximumf [0] S128 v 0xFF800000#32 reduces_S40x128_S128 (.inl rfl) rfl j
      = rowMax v (j 0) := by
  change reduceFold reduces_S40x128_S128 (FloatOps.maximumf (F := Ideal) (φ := .f32)) (Ideal.ofBits .f32 0xFF800000#32) v j = _
  rw [reduceFold_rows]
  show (List.finRange 40).foldl _ (Ideal.ofBits .f32 0xFF800000#32) = _
  rw [ofBits_neg_inf]
  rfl

/-- The printed minimum of words over the sublanes. -/
theorem reduce_min (w : IVec S40x128 32) (j : S128.Idx) :
    multiReductionI .minsi [0] S128 w 2147483647#32 reduces_S40x128_S128 rfl j
      = (List.finRange 40).foldl (fun acc s => IntOp.minsi acc (w (lane s (j 0)))) 2147483647#32 := by
  change reduceFold reduces_S40x128_S128 IntOp.minsi 2147483647#32 w j = _
  rw [reduceFold_rows]
  rfl

/-- The index of row `r` in a vector of 128. -/
def row (r : Fin 128) : S128.Idx := fun a => match a with | ⟨0, _⟩ => (r : Fin 128)

/-- A vector cast to one row of a matrix, read in that row. -/
theorem cast_row {α : Type} (x : S128.Idx → α) (h : S128.ShapeCasts S1x128) (r : Fin 128) :
    shapeCast S1x128 x h (Shape.pair (0 : Fin 1) (r : Fin 128)) = x (row r) :=
  shapeCast_apply x h _ (row r) (by rw [Shape.rowMajor_val_one, Shape.rowMajor_val_two]; simp [row, Shape.pair])

/-- One row of a matrix cast to a vector. -/
theorem cast_vec {α : Type} (x : S1x128.Idx → α) (h : S1x128.ShapeCasts S128) (r : Fin 128) :
    shapeCast S128 x h (row r) = x (Shape.pair (0 : Fin 1) (r : Fin 128)) :=
  shapeCast_apply x h _ _ (by rw [Shape.rowMajor_val_one, Shape.rowMajor_val_two]; simp [row, Shape.pair])

/-- One row of a matrix repeated over the sublanes. -/
theorem bcast_row {α : Type} (x : S1x128.Idx → α) (h : S1x128.Broadcasts S40x128) (s : Fin 40) (r : Fin 128) :
    broadcastTo S40x128 x h (lane s r) = x (Shape.pair (0 : Fin 1) (r : Fin 128)) :=
  broadcastTo_apply x h _ _ fun a => by fin_cases a <;> rfl

/-- A choice on an ordered equality. -/
theorem select_eq (x y : EReal) {α : Type} (a b : α) : Scalar.select (Ideal.cmp .oeq x y) a b = if x = y then a else b := by
  by_cases h : x = y <;> simp [Scalar.select, Ideal.cmp, h]

/-- The payload of the last point, read at a row. -/
theorem pay6_apply (v : Vec Ideal S40x128 .f32) (n : Vec Ideal S40x128 .i32) (r : Fin 128) :
    k0_pay6 (F := Ideal) v n (Shape.pair (0 : Fin 1) (r : Fin 128)) = rowPick v n r := by
  unfold k0_pay6
  rw [cast_row, cast_vec, cast_row]
  refine (reduce_min _ (row r)).trans (congrArg (fun g => List.foldl g 2147483647#32 (List.finRange 40)) (funext fun acc => funext fun s => ?_))
  show IntOp.minsi acc (Scalar.select (Ideal.cmp .oeq (v (lane s r)) (broadcastTo S40x128 _ _ (lane s r)))
    (n (lane s r) * 40#32 + iota .tc S40x128 32 [0] iota_S40x128_d0_w32 (lane s r)) 2147483647#32) = _
  rw [bcast_row, cast_row, reduce_max, select_eq]
  have hi : iota .tc S40x128 32 [0] iota_S40x128_d0_w32 (lane s r) = BitVec.ofNat 32 s.val := by
    simp [iota, lane, Shape.pair]
  rw [hi]
  rfl

/-- If each lane holds the first place of its residue's greatest value, the row's pick is the first place of the greatest. -/
theorem rowPick_isFirst (f : ℕ → EReal) (v : Vec Ideal S40x128 .f32) (n : Vec Ideal S40x128 .i32) (r : Fin 128)
    (hv : ∀ s : Fin 40, v (lane s r) = (track (fun k => f (40 * k + s.val)) 2500).1)
    (hn : ∀ s : Fin 40, n (lane s r) = (track (fun k => f (40 * k + s.val)) 2500).2) :
    ∃ c, IsFirst f 100000 c ∧ rowPick v n r = BitVec.ofNat 32 c := by
  choose a ha he using fun s : ℕ => track_isFirst (fun k => f (40 * k + s)) 2499
  have hv' : ∀ s : Fin 40, v (lane s r) = f (40 * a s.val + s.val) := fun s => by rw [hv, he]
  have hn' : ∀ s : Fin 40, n (lane s r) = BitVec.ofNat 32 (a s.val) := fun s => by rw [hn, he]
  obtain ⟨m1, -, m3⟩ := foldl_max (fun s => v (lane s r)) (List.finRange 40) ⊥
  change ∀ s ∈ _, v (lane s r) ≤ rowMax v r at m1
  change rowMax v r = ⊥ ∨ ∃ s ∈ _, rowMax v r = v (lane s r) at m3
  have hex : ∃ s : Fin 40, v (lane s r) = rowMax v r := by
    rcases m3 with h | ⟨s, -, h⟩
    · exact ⟨0, le_antisymm (m1 0 (List.mem_finRange 0)) (h ▸ bot_le)⟩
    · exact ⟨s, h.symm⟩
  obtain ⟨-, p2, p3⟩ := foldl_minsi (fun s => if v (lane s r) = rowMax v r then n (lane s r) * 40#32 + BitVec.ofNat 32 s.val
    else 2147483647#32) (List.finRange 40) 2147483647#32
  change ∀ s ∈ _, (rowPick v n r).toInt ≤ _ at p2
  change rowPick v n r = _ ∨ ∃ s ∈ _, rowPick v n r = _ at p3
  have hw : ∀ s : Fin 40, n (lane s r) * 40#32 + BitVec.ofNat 32 s.val = BitVec.ofNat 32 (40 * a s.val + s.val) := fun s => by
    rw [hn']
    apply BitVec.eq_of_toNat_eq
    simp
    omega
  have hb : ∀ s : Fin 40, 40 * a s.val + s.val < 100000 := fun s => by
    have := (ha s.val).1
    omega
  have hi : ∀ k < 100000, (BitVec.ofNat 32 k).toInt = (k : ℤ) := fun k hk => by
    rw [BitVec.toInt_eq_toNat_of_lt] <;> simp <;> omega
  obtain ⟨s0, h0⟩ := hex
  have hlt : (rowPick v n r).toInt < 100000 := by
    have := p2 s0 (List.mem_finRange s0)
    rw [if_pos h0, hw, hi _ (hb s0)] at this
    have := hb s0
    omega
  have hmax : (2147483647#32 : BitVec 32).toInt = 2147483647 := by decide
  have hpick : ∃ s : Fin 40, v (lane s r) = rowMax v r ∧ rowPick v n r = BitVec.ofNat 32 (40 * a s.val + s.val) := by
    rcases p3 with h | ⟨s, -, h⟩
    · rw [h, hmax] at hlt; omega
    · by_cases hs : v (lane s r) = rowMax v r
      · exact ⟨s, hs, by rw [h, if_pos hs, hw]⟩
      · rw [if_neg hs] at h; rw [h, hmax] at hlt; omega
  obtain ⟨s, hs, hp⟩ := hpick
  refine ⟨40 * a s.val + s.val, ?_, hp⟩
  refine isFirst_of_residues f 2500 a (fun s _ => ha s) (rowMax v r) (fun s hs => ?_) s.val s.isLt ((hv' s).symm.trans hs) fun s' hs' h => ?_
  · rw [← hv' ⟨s, hs⟩]; exact m1 _ (List.mem_finRange _)
  · have := p2 ⟨s', hs'⟩ (List.mem_finRange _)
    rw [if_pos ((hv' _).trans h), hw, hp, hi _ (hb s), hi _ (hb ⟨s', hs'⟩)] at this
    exact_mod_cast this

end Cert.KernelIdeal.Value

end
-- ==== Proof.Blocks.lean ====
/-
  The grid points in order: what the scratch buffers hold after each, and the result row after the last.
-/
module

public import proofs.«01_k».proof.Proof.Cases
public import proofs.«01_k».proof.Proof.Final
public import Idealize.ShloMosaic.Lib.Pipeline.Value
public import Idealize.ShloMosaic.Lib.Tactic

@[expose] public section

noncomputable section

namespace Cert.KernelIdeal.Value

open Idealize.ShloMosaic Idealize.ShloMosaic.TcCoe Idealize.SL.Sem
open Cert.KernelIdeal Cert.KernelIdeal.Gen Cert.Sampling

variable (m : (ℓ : Loc nD τ sig) → Buf (Elt Ideal) ℓ)

/-- The argument's contents at launch. -/
abbrev logits (c : Dev nD) : S128x100000.Idx → EReal := m ((c : Thread nD τ).loc main_arg0)

/-- A grid point's coordinate is its number. -/
theorem coord_eq : ∀ t : Fin cfg0.N, (grid0.coords t 0).val = t.val := by decide +kernel

/-- The grid has twenty-five points. -/
theorem point_lt (t : Fin cfg0.N) : t.val < 25 := lt_of_lt_of_eq t.isLt (show cfg0.N = 25 from N_0)

/-- The block of the transposed logits at point `t`, read at row `a` and lane `r`. -/
theorem iblk_apply (c : Dev nD) (t : Fin cfg0.N) (a : Fin 4000) (r : Fin 128) :
    (iblk m c 0 t : Vec Ideal S4000x128 .f32) (Shape.pair (a : Fin 4000) (r : Fin 128))
      = logits m c (Shape.pair (r : Fin 128) (⟨4000 * t.val + a.val, by have := point_lt t; omega⟩ : Fin 100000)) := by
  have h0 : win0_0.index t 0 = t.val := by
    show (BitVec.ofNat 32 (grid0.coords t 0).val).toNat = t.val
    rw [coord_eq]
    have := point_lt t
    simp
    omega
  have h1 : win0_0.index t 1 = 0 := rfl
  unfold iblk
  rw [View.read_apply]
  show V m c main_v0 _ = _
  have hV : V m c main_v0 = transpose S100000x128 [1, 0] (logits m c) transposes_S128x100000_S100000x128_1_0 := by
    unfold V V0
    rfl
  rw [hV]
  refine transpose_apply _ _ _ _ _ fun b => ?_
  match b with
  | ⟨0, _⟩ => show 4000 * t.val + a.val = win0_0.index t 0 * 4000 + 1 * a.val; rw [h0]; omega
  | ⟨1, _⟩ => show r.val = win0_0.index t 1 * 128 + 1 * r.val; rw [h1]; omega

/-- The counters a point starts with. -/
theorem pay3_apply (i : grid0.Coords) (s : Fin 40) (r : Fin 128) :
    k0_pay3 i (lane s r) = BitVec.ofNat 32 (r.val * 100000 + (4000 * (i 0).val + s.val) + 42) := by
  have hr : iota .tc S40x128 32 [1] iota_S40x128_d1_w32 (lane s r) = BitVec.ofNat 32 r.val := by
    simp [iota, lane, Shape.pair]
  have hs : iota .tc S40x128 32 [0] iota_S40x128_d0_w32 (lane s r) = BitVec.ofNat 32 s.val := by
    simp [iota, lane, Shape.pair]
  show iota .tc S40x128 32 [1] iota_S40x128_d1_w32 (lane s r) * 100000#32 + iota .tc S40x128 32 [0] iota_S40x128_d0_w32 (lane s r)
    + (BitVec.ofNat 32 (i 0).val * 4000#32 + 42#32) = _
  rw [hr, hs]
  apply BitVec.eq_of_toNat_eq
  simp
  omega

/-- The residue of the categories a lane scans. -/
abbrev residue (c : Dev nD) (s : Fin 40) (r : Fin 128) : ℕ → EReal := fun k => candidate (logits m c) r (40 * k + s.val)

/-- A trip's candidate is the category's. -/
theorem trip_candidate (c : Dev nD) (t : Fin cfg0.N) (s : Fin 40) (r : Fin 128) (k : Fin k0_t1_loop.trips) :
    score ((iblk m c 0 t : Vec Ideal S4000x128 .f32) (cell k (lane s r)))
        (k0_pay3 (grid0.coords t) (lane s r) + BitVec.ofNat 32 (40 * k.val))
      = residue m c s r (100 * (grid0.coords t 0).val + k.val) := by
  have ht := point_lt t
  have hk : k.val < 100 := trips_eq ▸ k.isLt
  unfold residue candidate
  rw [dif_pos (by rw [coord_eq]; omega)]
  have hc : cell k (lane s r) = Shape.pair (⟨40 * k.val + s.val, by omega⟩ : Fin 4000) (r : Fin 128) := rfl
  rw [hc, iblk_apply, pay3_apply]
  congr 1
  · congr 2
    apply Fin.ext
    show 4000 * t.val + (40 * k.val + s.val) = 40 * (100 * (grid0.coords t 0).val + k.val) + s.val
    rw [coord_eq]; omega
  · apply BitVec.eq_of_toNat_eq
    rw [coord_eq]
    simp
    omega

/-- From the scan's state before a point's chunks to its state after them, at every lane. -/
theorem swept_lane (c : Dev nD) (t : Fin cfg0.N) (arg1 : Memref sig .tc .vmem S4000x128 .f32) (harg1 : arg1.IsWhole)
    (arg2 : Memref sig .tc .vmem S1x128 .i32) (harg2 : arg2.IsWhole) (arg3 : Memref sig .tc .vmem S40x128 .f32)
    (harg3 : arg3.IsWhole) (arg4 : Memref sig .tc .vmem S40x128 .i32) (harg4 : arg4.IsWhole)
    (v : Vec Ideal S40x128 .f32) (n : Vec Ideal S40x128 .i32) (s : Fin 40) (r : Fin 128)
    (h0 : v (lane s r) = (track (residue m c s r) (100 * t.val)).1)
    (h1 : n (lane s r) = (track (residue m c s r) (100 * t.val)).2) :
    (swept c (grid0.coords t) arg1 harg1 arg2 harg2 arg3 harg3 arg4 harg4 (iblk m c 0 t) v n).1 (lane s r)
        = (track (residue m c s r) (100 * (t.val + 1))).1 ∧
    (swept c (grid0.coords t) arg1 harg1 arg2 harg2 arg3 harg3 arg4 harg4 (iblk m c 0 t) v n).2.1 (lane s r)
        = (track (residue m c s r) (100 * (t.val + 1))).2 := by
  obtain ⟨a, b, -⟩ := sweep_lane c (grid0.coords t) arg1 harg1 arg2 harg2 arg3 harg3 arg4 harg4 (residue m c s r) (iblk m c 0 t)
    v n (k0_pay3 (grid0.coords t)) (lane s r) (trip_candidate m c t s r) (by rw [coord_eq]; exact h0) (by rw [coord_eq]; exact h1)
    k0_t1_loop.trips le_rfl
  have e : 100 * (grid0.coords t 0).val + k0_t1_loop.trips = 100 * (t.val + 1) := by rw [coord_eq, trips_eq]; omega
  rw [e] at a b
  exact ⟨a, b⟩

/-- After point `n` every lane's scratch holds the scan's state after that point's chunks. -/
theorem scratch_eq (c : Dev nD) (s : Fin 40) (r : Fin 128) : ∀ (n : ℕ) (hn : n < cfg0.N),
    (outsAt0 m c n hn).2.1 (lane s r) = (track (residue m c s r) (100 * (n + 1))).1 ∧
    (outsAt0 m c n hn).2.2 (lane s r) = (track (residue m c s r) (100 * (n + 1))).2
  | 0, hn => by
    rw [show outsAt0 m c 0 hn = _ from outsAt0_A m c ⟨0, hn⟩ rfl (show ¬0 % 25 = 24 by decide)]
    dsimp only
    rw [sout_A_0, sout_A_1]
    exact swept_lane m c ⟨0, hn⟩ _ _ _ _ _ _ _ _ _ _ s r
      (by unfold k0_pay1; rw [shapeCast_self]; exact ofBits_neg_inf)
      (by unfold k0_pay2; rw [shapeCast_self]; rfl)
  | n + 1, hn => by
    have hlt := point_lt ⟨n + 1, hn⟩
    obtain ⟨i0, i1⟩ := scratch_eq c s r n (Nat.lt_of_succ_lt hn)
    have h0 : ¬(⟨n + 1, hn⟩ : Fin cfg0.N).val % 25 = 0 := by dsimp only at hlt ⊢; omega
    by_cases h1 : (⟨n + 1, hn⟩ : Fin cfg0.N).val % 25 = 24
    · rw [show outsAt0 m c (n + 1) hn = _ from outsAt0_C m c ⟨n + 1, hn⟩ h0 h1]
      dsimp only
      rw [sout_C_0, sout_C_1]
      exact swept_lane m c ⟨n + 1, hn⟩ _ _ _ _ _ _ _ _ _ _ s r i0 i1
    · rw [show outsAt0 m c (n + 1) hn = _ from outsAt0_B m c ⟨n + 1, hn⟩ h0 h1]
      dsimp only
      rw [sout_B_0, sout_B_1]
      exact swept_lane m c ⟨n + 1, hn⟩ _ _ _ _ _ _ _ _ _ _ s r i0 i1

/-- At the last point the result row's entry `r` is the first category at which row `r`'s candidate values are greatest. -/
theorem out_last (c : Dev nD) (hn : 24 < cfg0.N) (r : Fin 128) :
    ∃ k, IsFirst (candidate (logits m c) r) 100000 k ∧
      (outsAt0 m c 24 hn).1 (Shape.pair (0 : Fin 1) (r : Fin 128)) = BitVec.ofNat 32 k := by
  rw [show outsAt0 m c 24 hn = _ from outsAt0_C m c ⟨24, hn⟩ (show ¬24 % 25 = 0 by decide) rfl]
  dsimp only
  rw [out_C, pay6_apply]
  refine rowPick_isFirst (candidate (logits m c) r) _ _ r (fun s => ?_) (fun s => ?_)
  · exact (swept_lane m c ⟨24, hn⟩ _ _ _ _ _ _ _ _ _ _ s r (scratch_eq m c s r 23 _).1 (scratch_eq m c s r 23 _).2).1
  · exact (swept_lane m c ⟨24, hn⟩ _ _ _ _ _ _ _ _ _ _ s r (scratch_eq m c s r 23 _).1 (scratch_eq m c s r 23 _).2).2

end Cert.KernelIdeal.Value

end
-- ==== Proof.KernelRun.lean ====
/-
  The kernel's run: the returned vector holds, row by row, the first category at which the row's candidate values are
  greatest.
-/
module

public import proofs.«01_k».proof.Proof.Blocks
public import Idealize.ShloMosaic.Lib.StableHlo.Run

@[expose] public section

noncomputable section

namespace Cert.KernelIdeal.Value

open Idealize.ShloMosaic Idealize.ShloMosaic.TcCoe Idealize.SL.Sem
open Cert.KernelIdeal Cert.KernelIdeal.Gen Cert.Sampling

variable (m : (ℓ : Loc nD τ sig) → Buf (Elt Ideal) ℓ) (ρ : Dev nD → PrngReg)

/-- The row the kernel writes. -/
def picked (c : Dev nD) : S1x128.Idx → BitVec 32 := fun i => BitVec.ofNat 32 (argFirst (candidate (logits m c) (i 1)) 100000)

/-- At the last point the result window holds that row. -/
theorem out_picked (c : Dev nD) (hn : 24 < cfg0.N) : (outsAt0 m c 24 hn).1 = picked m c := by
  funext i
  obtain ⟨k, hk, he⟩ := out_last m c hn (i 1)
  have hi : i = Shape.pair (0 : Fin 1) (i 1 : Fin 128) := by
    funext a
    match a with
    | ⟨0, _⟩ => exact Fin.ext (by have : (i 0).val < 1 := (i 0).isLt; show (i 0).val = 0; omega)
    | ⟨1, _⟩ => rfl
  unfold picked
  rw [hk.argFirst_eq, ← he]
  exact congrArg _ hi

/-- The one write-back, at the last point, writes it. -/
theorem flushed_eq (c : Dev nD) (t : Fin cfg0.N) (hf : (cfg0.win 1).flush t = true) :
    (dats m 0 c).flushed 1 t = ((cfg0.win 1).blk t).view.read (Elt Ideal) (picked m c) := by
  have h24 : t.val = 24 := by have := (flush0_1 t).mp hf; have := point_lt t; omega
  obtain ⟨t, ht⟩ := t
  subst h24
  show (cfg0.win 1).cut (grid0.coords ⟨24, ht⟩) ((dats m 0 c).after 1 ⟨24, ht⟩) = _
  rw [after0_1]
  have hz' : (fun a => win0_1.index (⟨24, ht⟩ : Fin cfg0.N) a * main_v1.ty.shape.size a) = fun _ => 0 :=
    funext fun a => by fin_cases a <;> rfl
  rw [show (outsAt0 m c (⟨24, ht⟩ : Fin cfg0.N).val ht).1 = picked m c from out_picked m c ht]
  exact (Memref.read_access_unit_zero (Elt Ideal) main_v1 hz' (fun a => by rw [congrFun hz' a]; simp) (picked m c)).symm

/-- So the result array ends holding it. -/
theorem final_row (c : Dev nD) : (dats m 0 c).arrAt 1 cfg0.N = picked m c :=
  (dats m 0 c).arrAt_eq_of_cover 1 (picked m c) (flushed_eq m c) fun i => by
    have hN : (24 : ℕ) < cfg0.N := lt_of_lt_of_eq (by decide) (show cfg0.N = 25 from N_0).symm
    refine ⟨⟨24, hN⟩, (flush0_1 _).mpr rfl, ?_⟩
    show i ∈ ((View.whole main_v1).slice (win0_1.rect ⟨24, hN⟩)).set
    rw [View.set_slice_whole, Rect.mem_set_unit]
    intro a
    have h0 : (i 0 : Nat) < 1 := (i 0).isLt
    have h1 : (i 1 : Nat) < 128 := (i 1).isLt
    match a with
    | ⟨0, _⟩ => show 0 * 1 ≤ (i 0 : Nat) ∧ (i 0 : Nat) < 0 * 1 + 1; omega
    | ⟨1, _⟩ => show 0 * 128 ≤ (i 1 : Nat) ∧ (i 1 : Nat) < 0 * 128 + 128; omega

/-- The vector the program returns. -/
def result (A : S128x100000.Idx → EReal) : S128.Idx → BitVec 32 := fun j => BitVec.ofNat 32 (argFirst (candidate A (j 0)) 100000)

/-- The lines after the kernel leave the row in the returned vector. -/
theorem tail_eq (c : Dev nD) :
    Pipeline.afterTail₀ cfgs (dats m) 0 (V0 m) [hostOps1] c main_v2 = result (logits m c) := by
  unfold Pipeline.afterTail₀
  rw [show List.flatten [hostOps1 (F := Ideal)] = [StableHlo.reshape main_v1 main_v2 (rfl : (.i32 : EltTy) = .i32) shapeCasts_S1x128_S128] from rfl]
  after_results
  have hw : Pipeline.withArrays (cfgs 0).spec c (V0 m c) (fun w => (dats m 0 c).arrAt w (cfgs 0).N) (Proc.tc.devRef main_v1)
      = picked m c :=
    (Pipeline.withArrays_arr (cfgs 0).spec launch0.win.arr_inj c (V0 m c) (fun w => (dats m 0 c).arrAt w (cfgs 0).N) 1).trans (final_row m c)
  rw [hw]
  funext j
  have hj : j = row (j 0) := funext fun a => match a with | ⟨0, _⟩ => rfl
  show shapeCast S128 (picked m c) shapeCasts_S1x128_S128 j = _
  exact (congrArg (shapeCast S128 (picked m c) shapeCasts_S1x128_S128) hj).trans
    (cast_vec (picked m c) shapeCasts_S1x128_S128 (j 0))

/-- The kernel's run, read: the returned vector and the unchanged argument. -/
theorem run : θ_run defs (onTc (τ := τ) (main (F := Ideal))) ⟨m, fun _ => 0, ρ⟩ fun r => ∀ c : Dev nD,
      r.2.mem ((c : Thread nD τ).loc main_v2) = result (logits m c)
      ∧ r.2.mem ((c : Thread nD τ).loc main_arg0) = m ((c : Thread nD τ).loc main_arg0) :=
  (θ_run defs _ _).mono (fun r h c => ⟨
      ((h c).2 main_v2 (Pipeline.mem_restRefs_of main_v2 (by decide) (by decide))).trans (tail_eq m c),
      ((h c).2 main_arg0 (Pipeline.mem_restRefs_of main_arg0 (by decide) (by decide))).trans (W_main_arg0 m (dats m) c)⟩)
    (run_main m ρ)

end Cert.KernelIdeal.Value

end
-- ==== Proof.RefReads.lean ====
/-
  What each stretch of the reference leaves in the buffers that the next one reads, as a function on whole arrays.
-/
module

public import proofs.«01_k».proof.Proof.RefOps
public import Idealize.ShloMosaic.Lib.StableHlo.RunRead

@[expose] public section

noncomputable section

namespace Cert.ReferenceIdeal.Value

open Idealize.ShloMosaic Idealize.ShloMosaic.TcCoe Idealize.SL.Sem
open Cert.ReferenceIdeal Cert.ReferenceIdeal.Gen

/-! ### The operations on whole arrays -/

/-- One word repeated for every entry. -/
def spread (k : Word) : Words := broadcastInDim S128x100000 ![] bcast_S_S128x100000 k

/-- A constant word for every entry. -/
def splat (n : BitVec 32) : Words := spread (constantI S_ 32 n)

/-- One round of the cipher, on all entries at once. -/
def vround (l r : BitVec 32) (p : Words × Words) : Words × Words :=
  (addi p.1 p.2, xori (addi p.1 p.2) (ori (Host.shli p.2 (splat l)) (Host.shrui p.2 (splat r))))

/-- Four rounds with the first set of rotations. -/
def vfourA (p : Words × Words) : Words × Words :=
  vround 6#32 26#32 (vround 26#32 6#32 (vround 15#32 17#32 (vround 13#32 19#32 p)))

/-- Four rounds with the second set of rotations. -/
def vfourB (p : Words × Words) : Words × Words :=
  vround 24#32 8#32 (vround 16#32 16#32 (vround 29#32 3#32 (vround 17#32 15#32 p)))

/-- A key addition. -/
def vinject (k1 k2 : Word) (n : BitVec 32) (p : Words × Words) : Words × Words :=
  (addi p.1 (spread k1), addi (addi p.2 (spread k2)) (splat n))

/-- The uniform numbers from the cipher's two words. -/
def vunif (p : Words × Words) : FVec Ideal S128x100000 .f32 :=
  subf (bitcastToFloat .f32 (ori (Host.shrui (xori p.1 p.2) (splat 9#32)) (splat 1065353216#32)))
    (broadcastInDim S128x100000 ![] bcast_S_S128x100000 (constant (F := Ideal) S_ .f32 0x3F800000#32))

/-- The perturbed logits. -/
def vscore (u x : FVec Ideal S128x100000 .f32) : FVec Ideal S128x100000 .f32 :=
  addf (Host.negf (Host.log (Host.negf (Host.log u)))) x

/-- The argmax along the reduced axes: of values `x` at places `y`, begun at a value and a place. -/
def pickAlong {s t u : Shape} {axes : List (Fin s.rank)} (x : FVec Ideal s .f32) (y : IVec s 32) (ix : FVec Ideal u .f32)
    (iy : IVec u 32) (h : s.ReducesTo axes t) (hu : 0 < u.numel) : t.Idx → BitVec 32 :=
  fun j => (Host.argReduce (F := Ideal) (φ := .f32) (reducer_argmax_f32_i32 (F := Ideal)) x y ix iy h hu j).2

/-- The reference's argmax of every row. -/
def vpick (x : FVec Ideal S128x100000 .f32) : S128.Idx → BitVec 32 :=
  pickAlong x (iotaInDim S128x100000 32 1) (constant (F := Ideal) S_ .f32 0xFF800000#32) (constantI S_ 32 0#32)
    reducesTo_S128x100000_S128_d1 h_S_

/-- Every entry's place in row-major order, on 64 bits. -/
def vplace : IVec S128x100000 64 :=
  addi (muli (broadcastInDim S128x100000 ![] bcast_S_S128x100000 (constantI S_ 64 100000#64)) (iotaInDim S128x100000 64 0))
    (muli (broadcastInDim S128x100000 ![] bcast_S_S128x100000 (constantI S_ 64 1#64)) (iotaInDim S128x100000 64 1))

/-- The counters' low words. -/
def vlow : Words := trunci 32 vplace natLt_32_64

/-- The counters' high words. -/
def vhigh : Words :=
  trunci 32 (Host.shrui vplace (broadcastInDim S128x100000 ![] bcast_S_S128x100000 (constantI S_ 64 32#64))) natLt_32_64

/-- The seed's high word. -/
def vseedHigh : S1.Idx → BitVec 32 :=
  broadcastInDim S1 ![] bcast_S_S1 (Host.shrui (constantI S_ 32 42#32) (constantI S_ 32 32#32) : Word)

/-- The seed's low word. -/
def vseedLow : S1.Idx → BitVec 32 :=
  broadcastInDim S1 ![] bcast_S_S1 (andi (constantI S_ 32 42#32) (constantI S_ 32 4294967295#32) : Word)

/-- Two words in one vector. -/
def vjoin (a b : S1.Idx → BitVec 32) : S2.Idx → BitVec 32 := concatenate S2 0 [⟨S1, a⟩, ⟨S1, b⟩] concatenates_S1_S1_S2_d0

/-- The first of two words. -/
def vfst (x : S2.Idx → BitVec 32) : Word := shapeCast S_ (extractStridedSlice S1 ![0] x slices_S2_S1_0) shapeCasts_S1_S_

/-- The second of two words. -/
def vsnd (x : S2.Idx → BitVec 32) : Word := shapeCast S_ (extractStridedSlice S1 ![1] x slices_S2_S1_1) shapeCasts_S1_S_

variable (V : Valuation τ sig (Elt Ideal))

/-! ### The reads -/

theorem seed_read : StableHlo.after seedOps V ↑main_v2 = vseedHigh ∧ StableHlo.after seedOps V ↑main_v5 = vseedLow
    ∧ StableHlo.after seedOps V ↑main_arg0 = V ↑main_arg0 := by
  unfold seedOps; after_reads_simp; exact ⟨rfl, rfl, trivial⟩

theorem key_read : StableHlo.after keyOps V ↑main_v8 = vfst (vjoin (V ↑main_v2) (V ↑main_v5))
    ∧ StableHlo.after keyOps V ↑main_v10 = vsnd (vjoin (V ↑main_v2) (V ↑main_v5))
    ∧ StableHlo.after keyOps V ↑main_arg0 = V ↑main_arg0 := by
  unfold keyOps; after_reads_simp; exact ⟨rfl, rfl, trivial⟩

theorem count_read : StableHlo.after countOps V ↑main_v20 = vlow ∧ StableHlo.after countOps V ↑main_v21 = vhigh
    ∧ StableHlo.after countOps V ↑main_v8 = V ↑main_v8 ∧ StableHlo.after countOps V ↑main_v10 = V ↑main_v10
    ∧ StableHlo.after countOps V ↑main_arg0 = V ↑main_arg0 := by
  unfold countOps; after_reads_simp; exact ⟨rfl, rfl, trivial, trivial, trivial⟩

/-- The key words and the logits of a state of the buffers. -/
def fixedPart (V : Valuation τ sig (Elt Ideal)) : Word × Word × Word × FVec Ideal S128x100000 .f32 :=
  (V ↑main_v8, V ↑main_v10, V ↑main_call0_v1, V ↑main_arg0)

theorem start_read :
    fixedPart (StableHlo.after startOps V)
      = (V ↑main_v8, V ↑main_v10, xori (xori (V ↑main_v8) (V ↑main_v10)) (constantI S_ 32 466688986#32), V ↑main_arg0)
    ∧ StableHlo.after startOps V ↑main_call0_v3 = addi (V ↑main_v21) (spread (V ↑main_v8))
    ∧ StableHlo.after startOps V ↑main_call0_v5 = addi (V ↑main_v20) (spread (V ↑main_v10)) := by
  unfold startOps fixedPart; after_reads_simp; exact ⟨trivial, rfl, rfl⟩

theorem mix1_read :
    fixedPart (StableHlo.after mix1Ops V) = fixedPart V
    ∧ (StableHlo.after mix1Ops V ↑main_call0_v35, StableHlo.after mix1Ops V ↑main_call0_v39)
      = vinject (V ↑main_v10) (V ↑main_call0_v1) 1#32 (vfourA (V ↑main_call0_v3, V ↑main_call0_v5)) := by
  unfold mix1Ops fixedPart; after_reads_simp; exact ⟨trivial, rfl⟩

theorem mix2_read :
    fixedPart (StableHlo.after mix2Ops V) = fixedPart V
    ∧ (StableHlo.after mix2Ops V ↑main_call0_v69, StableHlo.after mix2Ops V ↑main_call0_v73)
      = vinject (V ↑main_call0_v1) (V ↑main_v8) 2#32 (vfourB (V ↑main_call0_v35, V ↑main_call0_v39)) := by
  unfold mix2Ops fixedPart; after_reads_simp; exact ⟨trivial, rfl⟩

theorem mix3_read :
    fixedPart (StableHlo.after mix3Ops V) = fixedPart V
    ∧ (StableHlo.after mix3Ops V ↑main_call0_v103, StableHlo.after mix3Ops V ↑main_call0_v107)
      = vinject (V ↑main_v8) (V ↑main_v10) 3#32 (vfourA (V ↑main_call0_v69, V ↑main_call0_v73)) := by
  unfold mix3Ops fixedPart; after_reads_simp; exact ⟨trivial, rfl⟩

theorem mix4_read :
    fixedPart (StableHlo.after mix4Ops V) = fixedPart V
    ∧ (StableHlo.after mix4Ops V ↑main_call0_v137, StableHlo.after mix4Ops V ↑main_call0_v141)
      = vinject (V ↑main_v10) (V ↑main_call0_v1) 4#32 (vfourB (V ↑main_call0_v103, V ↑main_call0_v107)) := by
  unfold mix4Ops fixedPart; after_reads_simp; exact ⟨trivial, rfl⟩

theorem mix5_read :
    fixedPart (StableHlo.after mix5Ops V) = fixedPart V
    ∧ (StableHlo.after mix5Ops V ↑main_v22_0, StableHlo.after mix5Ops V ↑main_v22_1)
      = vinject (V ↑main_call0_v1) (V ↑main_v8) 5#32 (vfourA (V ↑main_call0_v137, V ↑main_call0_v141)) := by
  unfold mix5Ops fixedPart; after_reads_simp; exact ⟨trivial, rfl⟩

theorem noise_read : StableHlo.after noiseOps V ↑main_v35 = vscore (vunif (V ↑main_v22_0, V ↑main_v22_1)) (V ↑main_arg0)
    ∧ StableHlo.after noiseOps V ↑main_arg0 = V ↑main_arg0 := by
  unfold noiseOps; after_reads_simp; exact ⟨rfl, trivial⟩

theorem pick_read : StableHlo.after pickOps V ↑main_v36 = vpick (V ↑main_v35)
    ∧ StableHlo.after pickOps V ↑main_arg0 = V ↑main_arg0 := by
  unfold pickOps; after_reads_simp; exact ⟨rfl, trivial⟩

end Cert.ReferenceIdeal.Value

end
-- ==== Proof.RefCipher.lean ====
/-
  The reference's cipher at one entry: its state is the word pair that `Threefry` defines, and its counter is the entry's
  place in row-major order.
-/
module

public import proofs.«01_k».proof.Proof.RefReads
public import proofs.«01_k».proof.Proof.Score
public import Idealize.ShloMosaic.Lib.ValueIdx
public import Idealize.ShloMosaic.Lib.Pipeline.Value

@[expose] public section

noncomputable section

namespace Cert.ReferenceIdeal.Value

open Idealize.ShloMosaic Idealize.ShloMosaic.Pipeline Idealize.ShloMosaic.TcCoe Idealize.SL.Sem
open Cert.ReferenceIdeal Cert.ReferenceIdeal.Gen Cert.Sampling

/-- The cipher's state at one entry. -/
def entry (p : Words × Words) (i : S128x100000.Idx) : Pair := (p.1 i, p.2 i)

theorem splat_apply (n : BitVec 32) (i : S128x100000.Idx) : splat n i = n := rfl

/-- A round at one entry. -/
theorem vround_entry {l r : BitVec 32} (hl : l.toNat < 32) (hr : r.toNat < 32) (p : Words × Words) (i : S128x100000.Idx) :
    entry (vround l r p) i = rnd l r (entry p i) := by
  refine Prod.ext rfl ?_
  show (p.1 i + p.2 i) ^^^ (IntOp.shli .host (p.2 i) l ||| IntOp.shrui .host (p.2 i) r) = _
  rw [IntOp.shli, if_pos hl, IntOp.shrui, if_pos hr]
  rfl

theorem vfourA_entry (p : Words × Words) (i : S128x100000.Idx) : entry (vfourA p) i = fourA (entry p i) := by
  unfold vfourA fourA
  rw [vround_entry (by decide) (by decide), vround_entry (by decide) (by decide), vround_entry (by decide) (by decide),
    vround_entry (by decide) (by decide)]

theorem vfourB_entry (p : Words × Words) (i : S128x100000.Idx) : entry (vfourB p) i = fourB (entry p i) := by
  unfold vfourB fourB
  rw [vround_entry (by decide) (by decide), vround_entry (by decide) (by decide), vround_entry (by decide) (by decide),
    vround_entry (by decide) (by decide)]

/-- A key addition of constant words at one entry. -/
theorem vinject_entry (a b n : BitVec 32) (p : Words × Words) (i : S128x100000.Idx) :
    entry (vinject (constantI S_ 32 a) (constantI S_ 32 b) n p) i = inj a (b + n) (entry p i) :=
  Prod.ext rfl (show p.2 i + b + n = p.2 i + (b + n) from BitVec.add_assoc _ _ _)

/-! ### The key -/

theorem high_eq : vseedHigh = fun _ => 0#32 :=
  funext fun _ => (show IntOp.shrui .host 42#32 32#32 = 0#32 by rw [ValueIdx.shrui_host, ValueIdx.shrui_32])

theorem low_eq : vseedLow = fun _ => 42#32 :=
  funext fun _ => (show (42#32 &&& 4294967295#32 : BitVec 32) = 42#32 by decide)

/-- The only index of a vector of one word. -/
def only : S1.Idx := fun | ⟨0, _⟩ => (0 : Fin 1)

theorem eq_only (k : S1.Idx) : k = only :=
  funext fun | ⟨0, _⟩ => Fin.ext (by have h : (k 0).val < 1 := (k 0).isLt; show (k 0).val = 0; omega)

/-- The indices of a vector of two words. -/
def place2 (n : Fin 2) : S2.Idx := fun | ⟨0, _⟩ => n

theorem join_zero (a b : S1.Idx → BitVec 32) : vjoin a b (place2 0) = a only :=
  concatenate_pair_apply_left (0 : Fin S2.rank) a b concatenates_S1_S1_S2_d0 (place2 0) rfl only fun | ⟨0, _⟩ => rfl

theorem join_one (a b : S1.Idx → BitVec 32) : vjoin a b (place2 1) = b only :=
  concatenate_pair_apply_right (0 : Fin S2.rank) a b concatenates_S1_S1_S2_d0 (place2 1) rfl rfl only
    (fun | ⟨0, _⟩ => fun h => absurd rfl h) rfl

theorem one_val (k : S1.Idx) : (k 0).val = 0 := by rw [eq_only k]; rfl

theorem vfst_apply (x : S2.Idx → BitVec 32) : vfst x = constantI S_ 32 (x (place2 0)) :=
  funext fun _ => extractStridedSlice_apply ![0] x slices_S2_S1_0 _ (place2 0) fun | ⟨0, _⟩ => (congrArg (0 + ·) (one_val _)).symm

theorem vsnd_apply (x : S2.Idx → BitVec 32) : vsnd x = constantI S_ 32 (x (place2 1)) :=
  funext fun _ => extractStridedSlice_apply ![1] x slices_S2_S1_1 _ (place2 1) fun | ⟨0, _⟩ => (congrArg (1 + ·) (one_val _)).symm

theorem fst_key : vfst (vjoin vseedHigh vseedLow) = constantI S_ 32 0#32 := by
  rw [vfst_apply, join_zero, high_eq]

theorem snd_key : vsnd (vjoin vseedHigh vseedLow) = constantI S_ 32 42#32 := by
  rw [vsnd_apply, join_one, low_eq]

/-- The third key word. -/
theorem third_key : (xori (xori (constantI S_ 32 0#32) (constantI S_ 32 42#32)) (constantI S_ 32 466688986#32) : Word)
    = constantI S_ 32 466689008#32 :=
  funext fun _ => (show (0#32 ^^^ 42#32) ^^^ 466688986#32 = 466689008#32 by decide)

/-! ### The counters -/

theorem place_apply (i : S128x100000.Idx) : vplace i = BitVec.ofNat 64 ((i 0).val * 100000 + (i 1).val) := by
  show 100000#64 * BitVec.ofNat 64 (i 0).val + 1#64 * BitVec.ofNat 64 (i 1).val = _
  apply BitVec.eq_of_toNat_eq
  simp only [BitVec.toNat_add, BitVec.toNat_mul, BitVec.toNat_ofNat]
  omega

theorem place_lt (i : S128x100000.Idx) : (i 0).val * 100000 + (i 1).val < 12800000 := by
  have h0 : (i 0).val < 128 := (i 0).isLt
  have h1 : (i 1).val < 100000 := (i 1).isLt
  omega

theorem low_apply (i : S128x100000.Idx) : vlow i = BitVec.ofNat 32 ((i 0).val * 100000 + (i 1).val) := by
  show (vplace i).setWidth 32 = _
  rw [place_apply]
  have := place_lt i
  apply BitVec.eq_of_toNat_eq
  simp only [BitVec.toNat_setWidth, BitVec.toNat_ofNat]
  omega

theorem high_apply (i : S128x100000.Idx) : vhigh i = 0#32 := by
  show (IntOp.shrui .host (vplace i) 32#64).setWidth 32 = _
  rw [IntOp.shrui, if_pos (by decide), place_apply]
  have := place_lt i
  apply BitVec.eq_of_toNat_eq
  have h32 : (32#64 : BitVec 64).toNat = 32 := by decide
  simp only [BitVec.toNat_setWidth, BitVec.toNat_ofNat, BitVec.toNat_ushiftRight, BitVec.ushiftRight_eq', h32,
    Nat.shiftRight_eq_div_pow]
  omega

/-! ### The whole cipher at one entry -/

/-- The counter of an entry, with the second key word added. -/
def counter (i : S128x100000.Idx) : BitVec 32 := BitVec.ofNat 32 ((i 0).val * 100000 + (i 1).val + 42)

/-- The state after the first key addition. -/
theorem start_entry (i : S128x100000.Idx) :
    entry (addi vhigh (spread (constantI S_ 32 0#32)), addi vlow (spread (constantI S_ 32 42#32))) i = (0#32, counter i) := by
  refine Prod.ext (show vhigh i + 0#32 = 0#32 by rw [high_apply]; rfl) (show vlow i + 42#32 = counter i from ?_)
  rw [low_apply]
  exact (BitVec.ofNat_add _ _).symm

/-- The uniform number of an entry. -/
theorem vunif_apply (p : Words × Words) (i : S128x100000.Idx) (h : entry p i = st5 (counter i)) :
    vunif p i = unif (counter i) := by
  have hw : ori (Host.shrui (xori p.1 p.2) (splat 9#32)) (splat 1065353216#32) i = pattern (counter i) := by
    show IntOp.shrui .host (p.1 i ^^^ p.2 i) 9#32 ||| 1065353216#32 = _
    rw [IntOp.shrui, if_pos (by decide)]
    show ((entry p i).1 ^^^ (entry p i).2) >>> 9#32 ||| 1065353216#32 = _
    rw [h]
    rfl
  show Ideal.ofBits .f32 (ori (Host.shrui (xori p.1 p.2) (splat 9#32)) (splat 1065353216#32) i) - Ideal.ofBits .f32 0x3F800000#32 = _
  rw [hw]
  rfl

/-- The perturbed logit of an entry. -/
theorem vscore_apply (u x : FVec Ideal S128x100000 .f32) (i : S128x100000.Idx) : vscore u x i = x i - antiGumbel (u i) := by
  show -(Ideal.log (-(Ideal.log (u i)))) + x i = _
  rw [sub_eq_add_neg, add_comm]
  rfl

end Cert.ReferenceIdeal.Value

end
-- ==== Proof.RefPick.lean ====
/-
  The reference's argmax of a row is the first place at which the row is greatest, whatever the order in which the row is
  gone through.
-/
module

public import proofs.«01_k».proof.Proof.RefReads
public import proofs.«01_k».proof.Proof.Track
public import Idealize.ShloMosaic.PureOps.Ideal.Laws

@[expose] public section

noncomputable section

namespace Cert.ReferenceIdeal.Value

open Idealize.ShloMosaic Idealize.ShloMosaic.TcCoe Idealize.SL.Sem
open Cert.ReferenceIdeal Cert.ReferenceIdeal.Gen Cert.Sampling

/-- The reducer on two pairs: the greater value, and its place; of equal values the smaller place. -/
theorem reducer_eq (M v : EReal) (a k : ℕ) (ha : a < 100000) (hk : k < 100000) :
    reducer_argmax_f32_i32 (F := Ideal) (M, BitVec.ofNat 32 a) (v, BitVec.ofNat 32 k)
      = (if v < M then M else v, if v < M ∨ (M = v ∧ a < k) then BitVec.ofNat 32 a else BitVec.ofNat 32 k) := by
  have hlt : IntOp.cmpi .slt (BitVec.ofNat 32 a) (BitVec.ofNat 32 k) = BitVec.ofBool (decide (a < k)) := by
    have h : (BitVec.ofNat 32 a).slt (BitVec.ofNat 32 k) = decide (a < k) := by
      have hi : ∀ n < 100000, (BitVec.ofNat 32 n).toInt = n := fun n hn => by
        rw [BitVec.toInt_eq_toNat_of_lt (by rw [BitVec.toNat_ofNat]; omega), BitVec.toNat_ofNat]
        omega
      rw [BitVec.slt, hi a ha, hi k hk]
      exact decide_eq_decide.2 (by omega)
    show BitVec.ofBool _ = _
    rw [h]
  unfold reducer_argmax_f32_i32
  simp only [Ideal.cmpf_def, Ideal.cmp, hlt]
  have hor : ∀ b : BitVec 1, 1#1 ||| b = 1#1 := by decide
  by_cases h1 : v < M
  · simp [h1, hor, Scalar.select, IntOp.ori, IntOp.andi]
  · by_cases h2 : M = v
    · by_cases h3 : a < k <;> simp [h2, h3, Scalar.select, IntOp.ori, IntOp.andi]
    · simp [h1, h2, Scalar.select, IntOp.ori, IntOp.andi]

/-- What the scan has kept, after the places of `S`: a bound of the values there, and a place that attains it, no later
    than any of `S` that does. At the start, with no place gone through, the bound is `⊥` and the place is 0. -/
def Kept (f : ℕ → EReal) (S : ℕ → Prop) (M : EReal) (a : ℕ) : Prop :=
  a < 100000 ∧ M ≤ f a ∧ ∀ k, S k → f k ≤ M ∧ (f k = M → a ≤ k)

/-- The scan over a list of places, in any order. -/
theorem scan_kept {α : Type} (f : ℕ → EReal) (g : α → ℕ) (hg : ∀ n, g n < 100000) (L : List α) (S : ℕ → Prop) (M : EReal) (a : ℕ)
    (h : Kept f S M a) :
    ∃ M' a', Kept f (fun k => S k ∨ ∃ n ∈ L, g n = k) M' a'
      ∧ L.foldl (fun r n => reducer_argmax_f32_i32 (F := Ideal) r (f (g n), BitVec.ofNat 32 (g n))) (M, BitVec.ofNat 32 a)
        = (M', BitVec.ofNat 32 a') := by
  induction L generalizing S M a with
  | nil => exact ⟨M, a, ⟨h.1, h.2.1, fun k hk => h.2.2 k (hk.elim id fun ⟨_, hn, _⟩ => absurd hn List.not_mem_nil)⟩, rfl⟩
  | cons n L ih =>
    obtain ⟨ha, hM, hS⟩ := h
    have step : ∃ M₁ a₁, Kept f (fun k => S k ∨ g n = k) M₁ a₁
        ∧ reducer_argmax_f32_i32 (F := Ideal) (M, BitVec.ofNat 32 a) (f (g n), BitVec.ofNat 32 (g n)) = (M₁, BitVec.ofNat 32 a₁) := by
      rw [reducer_eq M (f (g n)) a (g n) ha (hg n)]
      rcases lt_trichotomy (f (g n)) M with h1 | h1 | h1
      · refine ⟨M, a, ⟨ha, hM, ?_⟩, by simp [h1]⟩
        rintro k (hk | rfl)
        · exact hS k hk
        · exact ⟨h1.le, fun e => absurd e h1.ne⟩
      · by_cases h2 : a < g n
        · refine ⟨M, a, ⟨ha, hM, ?_⟩, by simp [h1, h2]⟩
          rintro k (hk | rfl)
          · exact hS k hk
          · exact ⟨h1.le, fun _ => h2.le⟩
        · refine ⟨M, g n, ⟨hg n, h1.ge, ?_⟩, by simp [h1, h2]⟩
          rintro k (hk | rfl)
          · exact ⟨(hS k hk).1, fun e => (not_lt.1 h2).trans ((hS k hk).2 e)⟩
          · exact ⟨h1.le, fun _ => le_rfl⟩
      · refine ⟨f (g n), g n, ⟨hg n, le_rfl, ?_⟩, by simp [h1.not_gt, h1.ne]⟩
        rintro k (hk | rfl)
        · exact ⟨(hS k hk).1.trans h1.le, fun e => absurd (e ▸ (hS k hk).1) h1.not_ge⟩
        · exact ⟨le_rfl, fun _ => le_rfl⟩
    obtain ⟨M₁, a₁, h₁, e₁⟩ := step
    obtain ⟨M', a', h', e'⟩ := ih _ M₁ a₁ h₁
    refine ⟨M', a', ⟨h'.1, h'.2.1, fun k hk => h'.2.2 k ?_⟩, by rw [List.foldl_cons, e₁]; exact e'⟩
    rcases hk with hk | ⟨n', hn', rfl⟩
    · exact Or.inl (Or.inl hk)
    · rcases List.mem_cons.1 hn' with rfl | hn'
      · exact Or.inl (Or.inr rfl)
      · exact Or.inr ⟨n', hn', rfl⟩

/-- The fold of the reducer over a row, for any shapes: `g` gives the place of an entry in its row, `f` the row's values. -/
theorem pickAlong_isFirst {s t u : Shape} {axes : List (Fin s.rank)} (x : s.Idx → EReal) (y : s.Idx → BitVec 32)
    (ix : u.Idx → EReal) (iy : u.Idx → BitVec 32) (h : s.ReducesTo axes t) (hu : 0 < u.numel) (j : t.Idx)
    (f : ℕ → EReal) (g : s.Idx → ℕ) (hg : ∀ i, g i < 100000) (hy : ∀ i, y i = BitVec.ofNat 32 (g i))
    (hx : ∀ i, h.drop i = j → x i = f (g i)) (hrow : ∀ k < 100000, ∃ i, h.drop i = j ∧ g i = k)
    (hix : ∀ i, ix i = ⊥) (hiy : ∀ i, iy i = 0#32) :
    ∃ a, IsFirst f 100000 a
      ∧ pickAlong x y ix iy h hu j = BitVec.ofNat 32 a := by
  unfold pickAlong
  rw [Ideal.argReduce_eq_reduce2]
  have hstart : Kept f (fun _ => False) ⊥ 0 := ⟨by decide, bot_le, fun _ h => h.elim⟩
  obtain ⟨M, a, ⟨ha, hM, hS⟩, he⟩ := scan_kept f (fun n => g (s.rowMajor.symm n)) (fun n => hg _)
    ((List.finRange s.numel).filter fun n => h.drop (s.rowMajor.symm n) = j) (fun _ => False) ⊥ 0 hstart
  have hall : ∀ k < 100000, f k ≤ M ∧ (f k = M → a ≤ k) := by
    intro k hk
    obtain ⟨i, hi, hk'⟩ := hrow k hk
    refine hS k (Or.inr ⟨s.rowMajor i, ?_, ?_⟩)
    · rw [List.mem_filter, Equiv.symm_apply_apply]
      exact ⟨List.mem_finRange _, decide_eq_true hi⟩
    · rw [Equiv.symm_apply_apply, hk']
  have hMa : M = f a := le_antisymm hM (hall a ha).1
  refine ⟨a, ⟨ha, fun k hk => hMa ▸ (hall k hk).1, fun k hk => lt_of_le_of_ne (hMa ▸ (hall k (hk.trans ha)).1) fun e => ?_⟩, ?_⟩
  · exact absurd ((hall k (hk.trans ha)).2 (e.trans hMa.symm)) (not_le.2 hk)
  · refine (congrArg Prod.snd (Eq.trans ?_ he) : _ = (M, BitVec.ofNat 32 a).2)
    unfold Host.reduce2
    rw [hix, hiy]
    refine List.foldl_ext _ _ _ fun r n hn => ?_
    rw [hx _ (of_decide_eq_true (List.mem_filter.1 hn).2), hy]

/-- A row's result is the first place of its greatest value. -/
theorem vpick_isFirst (x : FVec Ideal S128x100000 .f32) (j : S128.Idx) (f : ℕ → EReal)
    (hf : ∀ i : S128x100000.Idx, i 0 = j 0 → x i = f (i 1).val) :
    ∃ a, IsFirst f 100000 a ∧ vpick x j = BitVec.ofNat 32 a := by
  have hlt : ∀ i : S128x100000.Idx, (i 1).val < 100000 := fun i => (i 1).isLt
  have hrow : ∀ k < 100000, ∃ i : S128x100000.Idx, reducesTo_S128x100000_S128_d1.drop i = j ∧ (i 1).val = k := fun k hk =>
    ⟨Shape.pair (d := ![128, 100000]) (j 0 : Fin 128) (⟨k, hk⟩ : Fin 100000), funext fun | ⟨0, _⟩ => rfl, rfl⟩
  have hbot : ∀ i : S_.Idx, constant (F := Ideal) S_ .f32 0xFF800000#32 i = (⊥ : EReal) := fun _ => by
    show Ideal.ofBits .f32 0xFF800000#32 = ⊥
    simp [Ideal.ofBits, Ideal.ieee]
  exact pickAlong_isFirst (s := S128x100000) (t := S128) (u := S_) (axes := [1]) x (iotaInDim S128x100000 32 1)
    (constant (F := Ideal) S_ .f32 0xFF800000#32) (constantI S_ 32 0#32)
    reducesTo_S128x100000_S128_d1 h_S_ j f (fun i => (i 1).val) hlt (fun _ => rfl) (fun i hi => hf i (congrFun hi 0)) hrow
    hbot (fun _ => rfl)

end Cert.ReferenceIdeal.Value

end
-- ==== Proof.RefRun.lean ====
/-
  The reference's run: the returned vector holds, row by row, the first category at which the row's candidate values are
  greatest.
-/
module

public import proofs.«01_k».proof.Proof.RefCipher
public import proofs.«01_k».proof.Proof.RefPick
public import Idealize.ShloMosaic.Lib.Pipeline.Frame

@[expose] public section

noncomputable section

namespace Cert.ReferenceIdeal.Value

open Idealize.ShloMosaic Idealize.ShloMosaic.Pipeline Idealize.ShloMosaic.TcCoe Idealize.SL.Sem
open Cert.ReferenceIdeal Cert.ReferenceIdeal.Gen Cert.Sampling

variable (V : Valuation τ sig (Elt Ideal))

/-- A key addition and four rounds before it, when the key words are constant. -/
theorem vinject_fourA {k1 k2 : Word} {a b n : BitVec 32} (h1 : k1 = constantI S_ 32 a) (h2 : k2 = constantI S_ 32 b)
    (p : Words × Words) (i : S128x100000.Idx) : entry (vinject k1 k2 n (vfourA p)) i = inj a (b + n) (fourA (entry p i)) := by
  rw [h1, h2, vinject_entry, vfourA_entry]

theorem vinject_fourB {k1 k2 : Word} {a b n : BitVec 32} (h1 : k1 = constantI S_ 32 a) (h2 : k2 = constantI S_ 32 b)
    (p : Words × Words) (i : S128x100000.Idx) : entry (vinject k1 k2 n (vfourB p)) i = inj a (b + n) (fourB (entry p i)) := by
  rw [h1, h2, vinject_entry, vfourB_entry]

/-- What every stretch of the cipher keeps: the three key words, and the logits `A`. -/
def Fixed (A : FVec Ideal S128x100000 .f32) (V : Valuation τ sig (Elt Ideal)) : Prop :=
  fixedPart V = (constantI S_ 32 0#32, constantI S_ 32 42#32, constantI S_ 32 466689008#32, A)

variable {V}

theorem Fixed.k0 {A} (h : Fixed A V) : V ↑main_v8 = constantI S_ 32 0#32 := congrArg (fun p => p.1) h
theorem Fixed.k1 {A} (h : Fixed A V) : V ↑main_v10 = constantI S_ 32 42#32 := congrArg (fun p => p.2.1) h
theorem Fixed.k2 {A} (h : Fixed A V) : V ↑main_call0_v1 = constantI S_ 32 466689008#32 := congrArg (fun p => p.2.2.1) h
theorem Fixed.logits {A} (h : Fixed A V) : V ↑main_arg0 = A := congrArg (fun p => p.2.2.2) h

variable (V)

/-- Before the first round: the key words, and the counters with the key added. -/
theorem start_state (A : FVec Ideal S128x100000 .f32) (h8 : V ↑main_v8 = constantI S_ 32 0#32)
    (h10 : V ↑main_v10 = constantI S_ 32 42#32) (h20 : V ↑main_v20 = vlow) (h21 : V ↑main_v21 = vhigh) (hA : V ↑main_arg0 = A) :
    Fixed A (StableHlo.after startOps V) ∧ ∀ i, entry (StableHlo.after startOps V ↑main_call0_v3,
      StableHlo.after startOps V ↑main_call0_v5) i = (0#32, counter i) := by
  obtain ⟨hf, h3, h5⟩ := start_read V
  refine ⟨?_, fun i => ?_⟩
  · rw [Fixed, hf, h8, h10, hA, third_key]
  · rw [h3, h5, h8, h10, h20, h21]
    exact start_entry i

/-- After the cipher: its two words at every entry, and the logits. -/
theorem cipher_state (A : FVec Ideal S128x100000 .f32) (h8 : V ↑main_v8 = constantI S_ 32 0#32)
    (h10 : V ↑main_v10 = constantI S_ 32 42#32) (h20 : V ↑main_v20 = vlow) (h21 : V ↑main_v21 = vhigh) (hA : V ↑main_arg0 = A) :
    StableHlo.after cipherOps V ↑main_arg0 = A
    ∧ ∀ i, entry (StableHlo.after cipherOps V ↑main_v22_0, StableHlo.after cipherOps V ↑main_v22_1) i = st5 (counter i) := by
  obtain ⟨f0, e0⟩ := start_state V A h8 h10 h20 h21 hA
  simp only [cipherOps, StableHlo.after_append]
  generalize StableHlo.after startOps V = V0 at *
  have f1 : Fixed A (StableHlo.after mix1Ops V0) := (mix1_read V0).1.trans f0
  have e1 : ∀ i, entry (StableHlo.after mix1Ops V0 ↑main_call0_v35, StableHlo.after mix1Ops V0 ↑main_call0_v39) i
      = st1 (counter i) := fun i => by
    rw [(mix1_read V0).2, vinject_fourA f0.k1 f0.k2, e0 i]; rfl
  generalize StableHlo.after mix1Ops V0 = V1 at *
  have f2 : Fixed A (StableHlo.after mix2Ops V1) := (mix2_read V1).1.trans f1
  have e2 : ∀ i, entry (StableHlo.after mix2Ops V1 ↑main_call0_v69, StableHlo.after mix2Ops V1 ↑main_call0_v73) i
      = st2 (counter i) := fun i => by
    rw [(mix2_read V1).2, vinject_fourB f1.k2 f1.k0, e1 i]; rfl
  generalize StableHlo.after mix2Ops V1 = V2 at *
  have f3 : Fixed A (StableHlo.after mix3Ops V2) := (mix3_read V2).1.trans f2
  have e3 : ∀ i, entry (StableHlo.after mix3Ops V2 ↑main_call0_v103, StableHlo.after mix3Ops V2 ↑main_call0_v107) i
      = st3 (counter i) := fun i => by
    rw [(mix3_read V2).2, vinject_fourA f2.k0 f2.k1, e2 i]; rfl
  generalize StableHlo.after mix3Ops V2 = V3 at *
  have f4 : Fixed A (StableHlo.after mix4Ops V3) := (mix4_read V3).1.trans f3
  have e4 : ∀ i, entry (StableHlo.after mix4Ops V3 ↑main_call0_v137, StableHlo.after mix4Ops V3 ↑main_call0_v141) i
      = st4 (counter i) := fun i => by
    rw [(mix4_read V3).2, vinject_fourB f3.k1 f3.k2, e3 i]; rfl
  generalize StableHlo.after mix4Ops V3 = V4 at *
  have f5 : Fixed A (StableHlo.after mix5Ops V4) := (mix5_read V4).1.trans f4
  refine ⟨f5.logits, fun i => ?_⟩
  rw [(mix5_read V4).2, vinject_fourA f4.k2 f4.k0, e4 i]; rfl

/-- The whole line: the argmax of the perturbed logits, and the logits unchanged. -/
theorem all_state : StableHlo.after allOps V ↑main_arg0 = V ↑main_arg0
    ∧ ∃ p : Words × Words, (∀ i, entry p i = st5 (counter i))
      ∧ StableHlo.after allOps V ↑main_v36 = vpick (vscore (vunif p) (V ↑main_arg0)) := by
  simp only [allOps, StableHlo.after_append]
  obtain ⟨h2, h5, hA⟩ := seed_read V
  generalize V ↑main_arg0 = A at *
  generalize StableHlo.after seedOps V = V0 at *
  obtain ⟨h8, h10, hA'⟩ := key_read V0
  rw [h2, h5] at h8 h10
  replace h8 := h8.trans fst_key
  replace h10 := h10.trans snd_key
  replace hA' := hA'.trans hA
  generalize StableHlo.after keyOps V0 = V1 at *
  obtain ⟨h20, h21, k8, k10, kA⟩ := count_read V1
  replace k8 := k8.trans h8
  replace k10 := k10.trans h10
  replace kA := kA.trans hA'
  generalize StableHlo.after countOps V1 = V2 at *
  obtain ⟨cA, ce⟩ := cipher_state V2 A k8 k10 h20 h21 kA
  generalize StableHlo.after cipherOps V2 = V3 at *
  obtain ⟨n35, nA⟩ := noise_read V3
  rw [cA] at n35 nA
  generalize StableHlo.after noiseOps V3 = V4 at *
  obtain ⟨p36, pA⟩ := pick_read V4
  exact ⟨pA.trans nA, _, ce, by rw [p36, n35]⟩

/-- The vector that the reference returns. -/
theorem all_result (j : S128.Idx) : StableHlo.after allOps V ↑main_v36 j
    = BitVec.ofNat 32 (argFirst (candidate (V ↑main_arg0) (j 0)) 100000) := by
  obtain ⟨-, p, hp, h⟩ := all_state V
  rw [h]
  obtain ⟨a, ha, e⟩ := vpick_isFirst (vscore (vunif p) (V ↑main_arg0)) j (candidate (V ↑main_arg0) (j 0)) fun i hi => by
    have h1 : (i 1).val < 100000 := (i 1).isLt
    have hpair : i = Shape.pair (d := ![128, 100000]) (j 0 : Fin 128) (⟨(i 1).val, h1⟩ : Fin 100000) :=
      funext fun | ⟨0, _⟩ => hi | ⟨1, _⟩ => rfl
    have hc : counter i = BitVec.ofNat 32 ((j 0 : Fin 128).val * 100000 + (i 1).val + 42) := by rw [counter, hi]
    refine (vscore_apply _ _ i).trans (Eq.trans ?_ (candidate_of_lt _ (j 0) (i 1).val h1).symm)
    rw [vunif_apply p i (hp i), hc, ← hpair]
    rfl
  rw [e, ha.argFirst_eq]

/-! ### The run -/

/-- Every operation reads and writes buffers of the program. -/
theorem all_bufs : (allOps : List (HloOp τ sig (Elt Ideal))).Forall fun op => op.bufs ⊆ StableHlo.tcRefs τ sig := by
  simp only [allOps, cipherOps, List.forall_append]
  refine ⟨?_, ?_, ?_, ⟨?_, ?_, ?_, ?_, ?_, ?_⟩, ?_, ?_⟩
  · simp [seedOps]
  · simp [keyOps]
  · simp [countOps]
  · simp [startOps]
  · simp [mix1Ops]
  · simp [mix2Ops]
  · simp [mix3Ops]
  · simp [mix4Ops]
  · simp [mix5Ops]
  · simp [noiseOps]
  · simp [pickOps]

/-- Every operation computes its results: none leaves a buffer's contents open. -/
theorem all_fresh : (allOps : List (HloOp τ sig (Elt Ideal))).Forall fun op => op.fresh = ∅ := by
  simp only [allOps, cipherOps, List.forall_append]
  exact ⟨by repeat' constructor, by repeat' constructor, by repeat' constructor,
    ⟨by repeat' constructor, by repeat' constructor, by repeat' constructor, by repeat' constructor, by repeat' constructor,
      by repeat' constructor⟩, by repeat' constructor, by repeat' constructor⟩

/-- The reference's run, read: the returned vector and the unchanged argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v36)
        = (fun j => BitVec.ofNat 32 (argFirst (candidate (m ((c : Thread nD τ).loc main_arg0)) (j 0)) 100000) : S128.Idx → BitVec 32)
      ∧ r.2.mem ((c : Thread nD τ).loc main_arg0) = m ((c : Thread nD τ).loc main_arg0) :=
  (θ_run defs _ _).mono (fun _ h c => ⟨(h c main_v36).trans (funext (all_result _)), (h c main_arg0).trans (all_state _).1⟩)
    (StableHlo.run_hlo defs main main_eq (by decide) (by decide) all_bufs (List.forall_iff_forall_mem.1 all_fresh) m ρ)

end Cert.ReferenceIdeal.Value

end
-- ==== Proof.BoundOps.lean ====
/-
  The reference with the lower bound, as lines of host operations: the key, the counters, the cipher in five stretches of
  four rounds, the perturbed logits, the argmax.
-/
module

public import proofs.«01_k».proof.Proof.Gen.BoundedIdeal
public import proofs.«01_k».proof.Proof.RefReads
public import Idealize.ShloMosaic.PureOps.Ideal
public import Idealize.ShloMosaic.Lib.StableHlo.Run
public import Idealize.ShloMosaic.Lib.StableHlo.RunHlo

@[expose] public section

noncomputable section

namespace Cert.BoundedIdeal.Value

open Idealize.ShloMosaic Idealize.ShloMosaic.TcCoe Idealize.SL.Sem
open Cert.BoundedIdeal Cert.BoundedIdeal.Gen
open Cert.ReferenceIdeal.Value (Word Words)

/-- The two words of the seed 42. -/
noncomputable def seedOps : List (HloOp τ sig (Elt Ideal)) := [
    StableHlo.nullary main_c (constantI S_ 32 42#32),
    StableHlo.nullary main_c_0 (constantI S_ 32 32#32),
    StableHlo.binary main_c main_c_0 main_v0 (Host.shrui : Word → Word → Word),
    StableHlo.unary main_v0 main_v1 (id : Word → Word),
    StableHlo.unary main_v1 main_v2 (broadcastInDim S1 ![] bcast_S_S1 : Word → (⟨S1, .i32⟩ : BufTy).Contents (Elt Ideal)),
    StableHlo.nullary main_c_1 (constantI S_ 32 4294967295#32),
    StableHlo.binary main_c main_c_1 main_v3 (andi : Word → Word → Word),
    StableHlo.unary main_v3 main_v4 (id : Word → Word),
    StableHlo.unary main_v4 main_v5 (broadcastInDim S1 ![] bcast_S_S1 : Word → (⟨S1, .i32⟩ : BufTy).Contents (Elt Ideal))]

/-- The key: the two words, joined and taken apart again. -/
noncomputable def keyOps : List (HloOp τ sig (Elt Ideal)) := [
    StableHlo.binary main_v2 main_v5 main_v6 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.unary main_v6 main_v7 ((extractStridedSlice S1 ![0] · slices_S2_S1_0) : (⟨S2, .i32⟩ : BufTy).Contents (Elt Ideal) → (⟨S1, .i32⟩ : BufTy).Contents (Elt Ideal)),
    StableHlo.reshape main_v7 main_v8 (rfl : (.i32 : EltTy) = .i32) shapeCasts_S1_S_,
    StableHlo.unary main_v6 main_v9 ((extractStridedSlice S1 ![1] · slices_S2_S1_1) : (⟨S2, .i32⟩ : BufTy).Contents (Elt Ideal) → (⟨S1, .i32⟩ : BufTy).Contents (Elt Ideal)),
    StableHlo.reshape main_v9 main_v10 (rfl : (.i32 : EltTy) = .i32) shapeCasts_S1_S_]

/-- The counter of every entry, its low and its high word. -/
noncomputable def countOps : List (HloOp τ sig (Elt Ideal)) := [
    StableHlo.nullary main_v11 (iotaInDim S128x100000 64 0),
    StableHlo.nullary main_v12 (iotaInDim S128x100000 64 1),
    StableHlo.nullary main_c_2 (constantI S_ 64 100000#64),
    StableHlo.unary main_c_2 main_v13 (broadcastInDim S128x100000 ![] bcast_S_S128x100000 : (⟨S_, .i64⟩ : BufTy).Contents (Elt Ideal) → (⟨S128x100000, .i64⟩ : BufTy).Contents (Elt Ideal)),
    StableHlo.binary main_v13 main_v11 main_v14 (muli : (⟨S128x100000, .i64⟩ : BufTy).Contents (Elt Ideal) → (⟨S128x100000, .i64⟩ : BufTy).Contents (Elt Ideal) → (⟨S128x100000, .i64⟩ : BufTy).Contents (Elt Ideal)),
    StableHlo.nullary main_c_3 (constantI S_ 64 1#64),
    StableHlo.unary main_c_3 main_v15 (broadcastInDim S128x100000 ![] bcast_S_S128x100000 : (⟨S_, .i64⟩ : BufTy).Contents (Elt Ideal) → (⟨S128x100000, .i64⟩ : BufTy).Contents (Elt Ideal)),
    StableHlo.binary main_v15 main_v12 main_v16 (muli : (⟨S128x100000, .i64⟩ : BufTy).Contents (Elt Ideal) → (⟨S128x100000, .i64⟩ : BufTy).Contents (Elt Ideal) → (⟨S128x100000, .i64⟩ : BufTy).Contents (Elt Ideal)),
    StableHlo.binary main_v14 main_v16 main_v17 (addi : (⟨S128x100000, .i64⟩ : BufTy).Contents (Elt Ideal) → (⟨S128x100000, .i64⟩ : BufTy).Contents (Elt Ideal) → (⟨S128x100000, .i64⟩ : BufTy).Contents (Elt Ideal)),
    StableHlo.nullary main_c_4 (constantI S_ 64 32#64),
    StableHlo.unary main_c_4 main_v18 (broadcastInDim S128x100000 ![] bcast_S_S128x100000 : (⟨S_, .i64⟩ : BufTy).Contents (Elt Ideal) → (⟨S128x100000, .i64⟩ : BufTy).Contents (Elt Ideal)),
    StableHlo.binary main_v17 main_v18 main_v19 (Host.shrui : (⟨S128x100000, .i64⟩ : BufTy).Contents (Elt Ideal) → (⟨S128x100000, .i64⟩ : BufTy).Contents (Elt Ideal) → (⟨S128x100000, .i64⟩ : BufTy).Contents (Elt Ideal)),
    StableHlo.unary main_v17 main_v20 ((trunci 32 · natLt_32_64) : (⟨S128x100000, .i64⟩ : BufTy).Contents (Elt Ideal) → Words),
    StableHlo.unary main_v19 main_v21 ((trunci 32 · natLt_32_64) : (⟨S128x100000, .i64⟩ : BufTy).Contents (Elt Ideal) → Words)]

/-- The third key word, and the first key addition. -/
noncomputable def startOps : List (HloOp τ sig (Elt Ideal)) := [
    StableHlo.binary main_v8 main_v10 main_call0_v0 (xori : Word → Word → Word),
    StableHlo.nullary main_call0_c (constantI S_ 32 466688986#32),
    StableHlo.binary main_call0_v0 main_call0_c main_call0_v1 (xori : Word → Word → Word),
    StableHlo.unary main_v8 main_call0_v2 (broadcastInDim S128x100000 ![] bcast_S_S128x100000 : Word → Words),
    StableHlo.binary main_v21 main_call0_v2 main_call0_v3 (addi : Words → Words → Words),
    StableHlo.unary main_v10 main_call0_v4 (broadcastInDim S128x100000 ![] bcast_S_S128x100000 : Word → Words),
    StableHlo.binary main_v20 main_call0_v4 main_call0_v5 (addi : Words → Words → Words)]

/-- Four rounds and key addition 1. -/
noncomputable def mix1Ops : List (HloOp τ sig (Elt Ideal)) := [
    StableHlo.binary main_call0_v3 main_call0_v5 main_call0_v6 (addi : Words → Words → Words),
    StableHlo.nullary main_call0_c_0 (constantI S_ 32 13#32),
    StableHlo.unary main_call0_c_0 main_call0_v7 (broadcastInDim S128x100000 ![] bcast_S_S128x100000 : Word → Words),
    StableHlo.binary main_call0_v5 main_call0_v7 main_call0_v8 (Host.shli : Words → Words → Words),
    StableHlo.nullary main_call0_c_1 (constantI S_ 32 19#32),
    StableHlo.unary main_call0_c_1 main_call0_v9 (broadcastInDim S128x100000 ![] bcast_S_S128x100000 : Word → Words),
    StableHlo.binary main_call0_v5 main_call0_v9 main_call0_v10 (Host.shrui : Words → Words → Words),
    StableHlo.binary main_call0_v8 main_call0_v10 main_call0_v11 (ori : Words → Words → Words),
    StableHlo.binary main_call0_v6 main_call0_v11 main_call0_v12 (xori : Words → Words → Words),
    StableHlo.binary main_call0_v6 main_call0_v12 main_call0_v13 (addi : Words → Words → Words),
    StableHlo.nullary main_call0_c_2 (constantI S_ 32 15#32),
    StableHlo.unary main_call0_c_2 main_call0_v14 (broadcastInDim S128x100000 ![] bcast_S_S128x100000 : Word → Words),
    StableHlo.binary main_call0_v12 main_call0_v14 main_call0_v15 (Host.shli : Words → Words → Words),
    StableHlo.nullary main_call0_c_3 (constantI S_ 32 17#32),
    StableHlo.unary main_call0_c_3 main_call0_v16 (broadcastInDim S128x100000 ![] bcast_S_S128x100000 : Word → Words),
    StableHlo.binary main_call0_v12 main_call0_v16 main_call0_v17 (Host.shrui : Words → Words → Words),
    StableHlo.binary main_call0_v15 main_call0_v17 main_call0_v18 (ori : Words → Words → Words),
    StableHlo.binary main_call0_v13 main_call0_v18 main_call0_v19 (xori : Words → Words → Words),
    StableHlo.binary main_call0_v13 main_call0_v19 main_call0_v20 (addi : Words → Words → Words),
    StableHlo.nullary main_call0_c_4 (constantI S_ 32 26#32),
    StableHlo.unary main_call0_c_4 main_call0_v21 (broadcastInDim S128x100000 ![] bcast_S_S128x100000 : Word → Words),
    StableHlo.binary main_call0_v19 main_call0_v21 main_call0_v22 (Host.shli : Words → Words → Words),
    StableHlo.nullary main_call0_c_5 (constantI S_ 32 6#32),
    StableHlo.unary main_call0_c_5 main_call0_v23 (broadcastInDim S128x100000 ![] bcast_S_S128x100000 : Word → Words),
    StableHlo.binary main_call0_v19 main_call0_v23 main_call0_v24 (Host.shrui : Words → Words → Words),
    StableHlo.binary main_call0_v22 main_call0_v24 main_call0_v25 (ori : Words → Words → Words),
    StableHlo.binary main_call0_v20 main_call0_v25 main_call0_v26 (xori : Words → Words → Words),
    StableHlo.binary main_call0_v20 main_call0_v26 main_call0_v27 (addi : Words → Words → Words),
    StableHlo.nullary main_call0_c_6 (constantI S_ 32 6#32),
    StableHlo.unary main_call0_c_6 main_call0_v28 (broadcastInDim S128x100000 ![] bcast_S_S128x100000 : Word → Words),
    StableHlo.binary main_call0_v26 main_call0_v28 main_call0_v29 (Host.shli : Words → Words → Words),
    StableHlo.nullary main_call0_c_7 (constantI S_ 32 26#32),
    StableHlo.unary main_call0_c_7 main_call0_v30 (broadcastInDim S128x100000 ![] bcast_S_S128x100000 : Word → Words),
    StableHlo.binary main_call0_v26 main_call0_v30 main_call0_v31 (Host.shrui : Words → Words → Words),
    StableHlo.binary main_call0_v29 main_call0_v31 main_call0_v32 (ori : Words → Words → Words),
    StableHlo.binary main_call0_v27 main_call0_v32 main_call0_v33 (xori : Words → Words → Words),
    StableHlo.unary main_v10 main_call0_v34 (broadcastInDim S128x100000 ![] bcast_S_S128x100000 : Word → Words),
    StableHlo.binary main_call0_v27 main_call0_v34 main_call0_v35 (addi : Words → Words → Words),
    StableHlo.unary main_call0_v1 main_call0_v36 (broadcastInDim S128x100000 ![] bcast_S_S128x100000 : Word → Words),
    StableHlo.binary main_call0_v33 main_call0_v36 main_call0_v37 (addi : Words → Words → Words),
    StableHlo.nullary main_call0_c_8 (constantI S_ 32 1#32),
    StableHlo.unary main_call0_c_8 main_call0_v38 (broadcastInDim S128x100000 ![] bcast_S_S128x100000 : Word → Words),
    StableHlo.binary main_call0_v37 main_call0_v38 main_call0_v39 (addi : Words → Words → Words)]

/-- Four rounds and key addition 2. -/
noncomputable def mix2Ops : List (HloOp τ sig (Elt Ideal)) := [
    StableHlo.binary main_call0_v35 main_call0_v39 main_call0_v40 (addi : Words → Words → Words),
    StableHlo.nullary main_call0_c_9 (constantI S_ 32 17#32),
    StableHlo.unary main_call0_c_9 main_call0_v41 (broadcastInDim S128x100000 ![] bcast_S_S128x100000 : Word → Words),
    StableHlo.binary main_call0_v39 main_call0_v41 main_call0_v42 (Host.shli : Words → Words → Words),
    StableHlo.nullary main_call0_c_10 (constantI S_ 32 15#32),
    StableHlo.unary main_call0_c_10 main_call0_v43 (broadcastInDim S128x100000 ![] bcast_S_S128x100000 : Word → Words),
    StableHlo.binary main_call0_v39 main_call0_v43 main_call0_v44 (Host.shrui : Words → Words → Words),
    StableHlo.binary main_call0_v42 main_call0_v44 main_call0_v45 (ori : Words → Words → Words),
    StableHlo.binary main_call0_v40 main_call0_v45 main_call0_v46 (xori : Words → Words → Words),
    StableHlo.binary main_call0_v40 main_call0_v46 main_call0_v47 (addi : Words → Words → Words),
    StableHlo.nullary main_call0_c_11 (constantI S_ 32 29#32),
    StableHlo.unary main_call0_c_11 main_call0_v48 (broadcastInDim S128x100000 ![] bcast_S_S128x100000 : Word → Words),
    StableHlo.binary main_call0_v46 main_call0_v48 main_call0_v49 (Host.shli : Words → Words → Words),
    StableHlo.nullary main_call0_c_12 (constantI S_ 32 3#32),
    StableHlo.unary main_call0_c_12 main_call0_v50 (broadcastInDim S128x100000 ![] bcast_S_S128x100000 : Word → Words),
    StableHlo.binary main_call0_v46 main_call0_v50 main_call0_v51 (Host.shrui : Words → Words → Words),
    StableHlo.binary main_call0_v49 main_call0_v51 main_call0_v52 (ori : Words → Words → Words),
    StableHlo.binary main_call0_v47 main_call0_v52 main_call0_v53 (xori : Words → Words → Words),
    StableHlo.binary main_call0_v47 main_call0_v53 main_call0_v54 (addi : Words → Words → Words),
    StableHlo.nullary main_call0_c_13 (constantI S_ 32 16#32),
    StableHlo.unary main_call0_c_13 main_call0_v55 (broadcastInDim S128x100000 ![] bcast_S_S128x100000 : Word → Words),
    StableHlo.binary main_call0_v53 main_call0_v55 main_call0_v56 (Host.shli : Words → Words → Words),
    StableHlo.nullary main_call0_c_14 (constantI S_ 32 16#32),
    StableHlo.unary main_call0_c_14 main_call0_v57 (broadcastInDim S128x100000 ![] bcast_S_S128x100000 : Word → Words),
    StableHlo.binary main_call0_v53 main_call0_v57 main_call0_v58 (Host.shrui : Words → Words → Words),
    StableHlo.binary main_call0_v56 main_call0_v58 main_call0_v59 (ori : Words → Words → Words),
    StableHlo.binary main_call0_v54 main_call0_v59 main_call0_v60 (xori : Words → Words → Words),
    StableHlo.binary main_call0_v54 main_call0_v60 main_call0_v61 (addi : Words → Words → Words),
    StableHlo.nullary main_call0_c_15 (constantI S_ 32 24#32),
    StableHlo.unary main_call0_c_15 main_call0_v62 (broadcastInDim S128x100000 ![] bcast_S_S128x100000 : Word → Words),
    StableHlo.binary main_call0_v60 main_call0_v62 main_call0_v63 (Host.shli : Words → Words → Words),
    StableHlo.nullary main_call0_c_16 (constantI S_ 32 8#32),
    StableHlo.unary main_call0_c_16 main_call0_v64 (broadcastInDim S128x100000 ![] bcast_S_S128x100000 : Word → Words),
    StableHlo.binary main_call0_v60 main_call0_v64 main_call0_v65 (Host.shrui : Words → Words → Words),
    StableHlo.binary main_call0_v63 main_call0_v65 main_call0_v66 (ori : Words → Words → Words),
    StableHlo.binary main_call0_v61 main_call0_v66 main_call0_v67 (xori : Words → Words → Words),
    StableHlo.unary main_call0_v1 main_call0_v68 (broadcastInDim S128x100000 ![] bcast_S_S128x100000 : Word → Words),
    StableHlo.binary main_call0_v61 main_call0_v68 main_call0_v69 (addi : Words → Words → Words),
    StableHlo.unary main_v8 main_call0_v70 (broadcastInDim S128x100000 ![] bcast_S_S128x100000 : Word → Words),
    StableHlo.binary main_call0_v67 main_call0_v70 main_call0_v71 (addi : Words → Words → Words),
    StableHlo.nullary main_call0_c_17 (constantI S_ 32 2#32),
    StableHlo.unary main_call0_c_17 main_call0_v72 (broadcastInDim S128x100000 ![] bcast_S_S128x100000 : Word → Words),
    StableHlo.binary main_call0_v71 main_call0_v72 main_call0_v73 (addi : Words → Words → Words)]

/-- Four rounds and key addition 3. -/
noncomputable def mix3Ops : List (HloOp τ sig (Elt Ideal)) := [
    StableHlo.binary main_call0_v69 main_call0_v73 main_call0_v74 (addi : Words → Words → Words),
    StableHlo.nullary main_call0_c_18 (constantI S_ 32 13#32),
    StableHlo.unary main_call0_c_18 main_call0_v75 (broadcastInDim S128x100000 ![] bcast_S_S128x100000 : Word → Words),
    StableHlo.binary main_call0_v73 main_call0_v75 main_call0_v76 (Host.shli : Words → Words → Words),
    StableHlo.nullary main_call0_c_19 (constantI S_ 32 19#32),
    StableHlo.unary main_call0_c_19 main_call0_v77 (broadcastInDim S128x100000 ![] bcast_S_S128x100000 : Word → Words),
    StableHlo.binary main_call0_v73 main_call0_v77 main_call0_v78 (Host.shrui : Words → Words → Words),
    StableHlo.binary main_call0_v76 main_call0_v78 main_call0_v79 (ori : Words → Words → Words),
    StableHlo.binary main_call0_v74 main_call0_v79 main_call0_v80 (xori : Words → Words → Words),
    StableHlo.binary main_call0_v74 main_call0_v80 main_call0_v81 (addi : Words → Words → Words),
    StableHlo.nullary main_call0_c_20 (constantI S_ 32 15#32),
    StableHlo.unary main_call0_c_20 main_call0_v82 (broadcastInDim S128x100000 ![] bcast_S_S128x100000 : Word → Words),
    StableHlo.binary main_call0_v80 main_call0_v82 main_call0_v83 (Host.shli : Words → Words → Words),
    StableHlo.nullary main_call0_c_21 (constantI S_ 32 17#32),
    StableHlo.unary main_call0_c_21 main_call0_v84 (broadcastInDim S128x100000 ![] bcast_S_S128x100000 : Word → Words),
    StableHlo.binary main_call0_v80 main_call0_v84 main_call0_v85 (Host.shrui : Words → Words → Words),
    StableHlo.binary main_call0_v83 main_call0_v85 main_call0_v86 (ori : Words → Words → Words),
    StableHlo.binary main_call0_v81 main_call0_v86 main_call0_v87 (xori : Words → Words → Words),
    StableHlo.binary main_call0_v81 main_call0_v87 main_call0_v88 (addi : Words → Words → Words),
    StableHlo.nullary main_call0_c_22 (constantI S_ 32 26#32),
    StableHlo.unary main_call0_c_22 main_call0_v89 (broadcastInDim S128x100000 ![] bcast_S_S128x100000 : Word → Words),
    StableHlo.binary main_call0_v87 main_call0_v89 main_call0_v90 (Host.shli : Words → Words → Words),
    StableHlo.nullary main_call0_c_23 (constantI S_ 32 6#32),
    StableHlo.unary main_call0_c_23 main_call0_v91 (broadcastInDim S128x100000 ![] bcast_S_S128x100000 : Word → Words),
    StableHlo.binary main_call0_v87 main_call0_v91 main_call0_v92 (Host.shrui : Words → Words → Words),
    StableHlo.binary main_call0_v90 main_call0_v92 main_call0_v93 (ori : Words → Words → Words),
    StableHlo.binary main_call0_v88 main_call0_v93 main_call0_v94 (xori : Words → Words → Words),
    StableHlo.binary main_call0_v88 main_call0_v94 main_call0_v95 (addi : Words → Words → Words),
    StableHlo.nullary main_call0_c_24 (constantI S_ 32 6#32),
    StableHlo.unary main_call0_c_24 main_call0_v96 (broadcastInDim S128x100000 ![] bcast_S_S128x100000 : Word → Words),
    StableHlo.binary main_call0_v94 main_call0_v96 main_call0_v97 (Host.shli : Words → Words → Words),
    StableHlo.nullary main_call0_c_25 (constantI S_ 32 26#32),
    StableHlo.unary main_call0_c_25 main_call0_v98 (broadcastInDim S128x100000 ![] bcast_S_S128x100000 : Word → Words),
    StableHlo.binary main_call0_v94 main_call0_v98 main_call0_v99 (Host.shrui : Words → Words → Words),
    StableHlo.binary main_call0_v97 main_call0_v99 main_call0_v100 (ori : Words → Words → Words),
    StableHlo.binary main_call0_v95 main_call0_v100 main_call0_v101 (xori : Words → Words → Words),
    StableHlo.unary main_v8 main_call0_v102 (broadcastInDim S128x100000 ![] bcast_S_S128x100000 : Word → Words),
    StableHlo.binary main_call0_v95 main_call0_v102 main_call0_v103 (addi : Words → Words → Words),
    StableHlo.unary main_v10 main_call0_v104 (broadcastInDim S128x100000 ![] bcast_S_S128x100000 : Word → Words),
    StableHlo.binary main_call0_v101 main_call0_v104 main_call0_v105 (addi : Words → Words → Words),
    StableHlo.nullary main_call0_c_26 (constantI S_ 32 3#32),
    StableHlo.unary main_call0_c_26 main_call0_v106 (broadcastInDim S128x100000 ![] bcast_S_S128x100000 : Word → Words),
    StableHlo.binary main_call0_v105 main_call0_v106 main_call0_v107 (addi : Words → Words → Words)]

/-- Four rounds and key addition 4. -/
noncomputable def mix4Ops : List (HloOp τ sig (Elt Ideal)) := [
    StableHlo.binary main_call0_v103 main_call0_v107 main_call0_v108 (addi : Words → Words → Words),
    StableHlo.nullary main_call0_c_27 (constantI S_ 32 17#32),
    StableHlo.unary main_call0_c_27 main_call0_v109 (broadcastInDim S128x100000 ![] bcast_S_S128x100000 : Word → Words),
    StableHlo.binary main_call0_v107 main_call0_v109 main_call0_v110 (Host.shli : Words → Words → Words),
    StableHlo.nullary main_call0_c_28 (constantI S_ 32 15#32),
    StableHlo.unary main_call0_c_28 main_call0_v111 (broadcastInDim S128x100000 ![] bcast_S_S128x100000 : Word → Words),
    StableHlo.binary main_call0_v107 main_call0_v111 main_call0_v112 (Host.shrui : Words → Words → Words),
    StableHlo.binary main_call0_v110 main_call0_v112 main_call0_v113 (ori : Words → Words → Words),
    StableHlo.binary main_call0_v108 main_call0_v113 main_call0_v114 (xori : Words → Words → Words),
    StableHlo.binary main_call0_v108 main_call0_v114 main_call0_v115 (addi : Words → Words → Words),
    StableHlo.nullary main_call0_c_29 (constantI S_ 32 29#32),
    StableHlo.unary main_call0_c_29 main_call0_v116 (broadcastInDim S128x100000 ![] bcast_S_S128x100000 : Word → Words),
    StableHlo.binary main_call0_v114 main_call0_v116 main_call0_v117 (Host.shli : Words → Words → Words),
    StableHlo.nullary main_call0_c_30 (constantI S_ 32 3#32),
    StableHlo.unary main_call0_c_30 main_call0_v118 (broadcastInDim S128x100000 ![] bcast_S_S128x100000 : Word → Words),
    StableHlo.binary main_call0_v114 main_call0_v118 main_call0_v119 (Host.shrui : Words → Words → Words),
    StableHlo.binary main_call0_v117 main_call0_v119 main_call0_v120 (ori : Words → Words → Words),
    StableHlo.binary main_call0_v115 main_call0_v120 main_call0_v121 (xori : Words → Words → Words),
    StableHlo.binary main_call0_v115 main_call0_v121 main_call0_v122 (addi : Words → Words → Words),
    StableHlo.nullary main_call0_c_31 (constantI S_ 32 16#32),
    StableHlo.unary main_call0_c_31 main_call0_v123 (broadcastInDim S128x100000 ![] bcast_S_S128x100000 : Word → Words),
    StableHlo.binary main_call0_v121 main_call0_v123 main_call0_v124 (Host.shli : Words → Words → Words),
    StableHlo.nullary main_call0_c_32 (constantI S_ 32 16#32),
    StableHlo.unary main_call0_c_32 main_call0_v125 (broadcastInDim S128x100000 ![] bcast_S_S128x100000 : Word → Words),
    StableHlo.binary main_call0_v121 main_call0_v125 main_call0_v126 (Host.shrui : Words → Words → Words),
    StableHlo.binary main_call0_v124 main_call0_v126 main_call0_v127 (ori : Words → Words → Words),
    StableHlo.binary main_call0_v122 main_call0_v127 main_call0_v128 (xori : Words → Words → Words),
    StableHlo.binary main_call0_v122 main_call0_v128 main_call0_v129 (addi : Words → Words → Words),
    StableHlo.nullary main_call0_c_33 (constantI S_ 32 24#32),
    StableHlo.unary main_call0_c_33 main_call0_v130 (broadcastInDim S128x100000 ![] bcast_S_S128x100000 : Word → Words),
    StableHlo.binary main_call0_v128 main_call0_v130 main_call0_v131 (Host.shli : Words → Words → Words),
    StableHlo.nullary main_call0_c_34 (constantI S_ 32 8#32),
    StableHlo.unary main_call0_c_34 main_call0_v132 (broadcastInDim S128x100000 ![] bcast_S_S128x100000 : Word → Words),
    StableHlo.binary main_call0_v128 main_call0_v132 main_call0_v133 (Host.shrui : Words → Words → Words),
    StableHlo.binary main_call0_v131 main_call0_v133 main_call0_v134 (ori : Words → Words → Words),
    StableHlo.binary main_call0_v129 main_call0_v134 main_call0_v135 (xori : Words → Words → Words),
    StableHlo.unary main_v10 main_call0_v136 (broadcastInDim S128x100000 ![] bcast_S_S128x100000 : Word → Words),
    StableHlo.binary main_call0_v129 main_call0_v136 main_call0_v137 (addi : Words → Words → Words),
    StableHlo.unary main_call0_v1 main_call0_v138 (broadcastInDim S128x100000 ![] bcast_S_S128x100000 : Word → Words),
    StableHlo.binary main_call0_v135 main_call0_v138 main_call0_v139 (addi : Words → Words → Words),
    StableHlo.nullary main_call0_c_35 (constantI S_ 32 4#32),
    StableHlo.unary main_call0_c_35 main_call0_v140 (broadcastInDim S128x100000 ![] bcast_S_S128x100000 : Word → Words),
    StableHlo.binary main_call0_v139 main_call0_v140 main_call0_v141 (addi : Words → Words → Words)]

/-- Four rounds and key addition 5. -/
noncomputable def mix5Ops : List (HloOp τ sig (Elt Ideal)) := [
    StableHlo.binary main_call0_v137 main_call0_v141 main_call0_v142 (addi : Words → Words → Words),
    StableHlo.nullary main_call0_c_36 (constantI S_ 32 13#32),
    StableHlo.unary main_call0_c_36 main_call0_v143 (broadcastInDim S128x100000 ![] bcast_S_S128x100000 : Word → Words),
    StableHlo.binary main_call0_v141 main_call0_v143 main_call0_v144 (Host.shli : Words → Words → Words),
    StableHlo.nullary main_call0_c_37 (constantI S_ 32 19#32),
    StableHlo.unary main_call0_c_37 main_call0_v145 (broadcastInDim S128x100000 ![] bcast_S_S128x100000 : Word → Words),
    StableHlo.binary main_call0_v141 main_call0_v145 main_call0_v146 (Host.shrui : Words → Words → Words),
    StableHlo.binary main_call0_v144 main_call0_v146 main_call0_v147 (ori : Words → Words → Words),
    StableHlo.binary main_call0_v142 main_call0_v147 main_call0_v148 (xori : Words → Words → Words),
    StableHlo.binary main_call0_v142 main_call0_v148 main_call0_v149 (addi : Words → Words → Words),
    StableHlo.nullary main_call0_c_38 (constantI S_ 32 15#32),
    StableHlo.unary main_call0_c_38 main_call0_v150 (broadcastInDim S128x100000 ![] bcast_S_S128x100000 : Word → Words),
    StableHlo.binary main_call0_v148 main_call0_v150 main_call0_v151 (Host.shli : Words → Words → Words),
    StableHlo.nullary main_call0_c_39 (constantI S_ 32 17#32),
    StableHlo.unary main_call0_c_39 main_call0_v152 (broadcastInDim S128x100000 ![] bcast_S_S128x100000 : Word → Words),
    StableHlo.binary main_call0_v148 main_call0_v152 main_call0_v153 (Host.shrui : Words → Words → Words),
    StableHlo.binary main_call0_v151 main_call0_v153 main_call0_v154 (ori : Words → Words → Words),
    StableHlo.binary main_call0_v149 main_call0_v154 main_call0_v155 (xori : Words → Words → Words),
    StableHlo.binary main_call0_v149 main_call0_v155 main_call0_v156 (addi : Words → Words → Words),
    StableHlo.nullary main_call0_c_40 (constantI S_ 32 26#32),
    StableHlo.unary main_call0_c_40 main_call0_v157 (broadcastInDim S128x100000 ![] bcast_S_S128x100000 : Word → Words),
    StableHlo.binary main_call0_v155 main_call0_v157 main_call0_v158 (Host.shli : Words → Words → Words),
    StableHlo.nullary main_call0_c_41 (constantI S_ 32 6#32),
    StableHlo.unary main_call0_c_41 main_call0_v159 (broadcastInDim S128x100000 ![] bcast_S_S128x100000 : Word → Words),
    StableHlo.binary main_call0_v155 main_call0_v159 main_call0_v160 (Host.shrui : Words → Words → Words),
    StableHlo.binary main_call0_v158 main_call0_v160 main_call0_v161 (ori : Words → Words → Words),
    StableHlo.binary main_call0_v156 main_call0_v161 main_call0_v162 (xori : Words → Words → Words),
    StableHlo.binary main_call0_v156 main_call0_v162 main_call0_v163 (addi : Words → Words → Words),
    StableHlo.nullary main_call0_c_42 (constantI S_ 32 6#32),
    StableHlo.unary main_call0_c_42 main_call0_v164 (broadcastInDim S128x100000 ![] bcast_S_S128x100000 : Word → Words),
    StableHlo.binary main_call0_v162 main_call0_v164 main_call0_v165 (Host.shli : Words → Words → Words),
    StableHlo.nullary main_call0_c_43 (constantI S_ 32 26#32),
    StableHlo.unary main_call0_c_43 main_call0_v166 (broadcastInDim S128x100000 ![] bcast_S_S128x100000 : Word → Words),
    StableHlo.binary main_call0_v162 main_call0_v166 main_call0_v167 (Host.shrui : Words → Words → Words),
    StableHlo.binary main_call0_v165 main_call0_v167 main_call0_v168 (ori : Words → Words → Words),
    StableHlo.binary main_call0_v163 main_call0_v168 main_call0_v169 (xori : Words → Words → Words),
    StableHlo.unary main_call0_v1 main_call0_v170 (broadcastInDim S128x100000 ![] bcast_S_S128x100000 : Word → Words),
    StableHlo.binary main_call0_v163 main_call0_v170 main_v22_0 (addi : Words → Words → Words),
    StableHlo.unary main_v8 main_call0_v172 (broadcastInDim S128x100000 ![] bcast_S_S128x100000 : Word → Words),
    StableHlo.binary main_call0_v169 main_call0_v172 main_call0_v173 (addi : Words → Words → Words),
    StableHlo.nullary main_call0_c_44 (constantI S_ 32 5#32),
    StableHlo.unary main_call0_c_44 main_call0_v174 (broadcastInDim S128x100000 ![] bcast_S_S128x100000 : Word → Words),
    StableHlo.binary main_call0_v173 main_call0_v174 main_v22_1 (addi : Words → Words → Words)]

/-- From the random word to the perturbed logit. -/
noncomputable def noiseOps : List (HloOp τ sig (Elt Ideal)) := [
    StableHlo.binary main_v22_0 main_v22_1 main_v23 (xori : Words → Words → Words),
    StableHlo.nullary main_c_5 (constantI S_ 32 9#32),
    StableHlo.unary main_c_5 main_v24 (broadcastInDim S128x100000 ![] bcast_S_S128x100000 : Word → Words),
    StableHlo.binary main_v23 main_v24 main_v25 (Host.shrui : Words → Words → Words),
    StableHlo.nullary main_c_6 (constantI S_ 32 1065353216#32),
    StableHlo.unary main_c_6 main_v26 (broadcastInDim S128x100000 ![] bcast_S_S128x100000 : Word → Words),
    StableHlo.binary main_v25 main_v26 main_v27 (ori : Words → Words → Words),
    StableHlo.unary main_v27 main_v28 (bitcastToFloat (F := Ideal) .f32 : Words → (⟨S128x100000, .f32⟩ : BufTy).Contents (Elt Ideal)),
    StableHlo.nullary main_cst (constant (F := Ideal) S_ .f32 0x3F800000#32),
    StableHlo.unary main_cst main_v29 (broadcastInDim S128x100000 ![] bcast_S_S128x100000 : (⟨S_, .f32⟩ : BufTy).Contents (Elt Ideal) → (⟨S128x100000, .f32⟩ : BufTy).Contents (Elt Ideal)),
    StableHlo.binary main_v28 main_v29 main_v30 (subf (F := Ideal) (φ := .f32) : (⟨S128x100000, .f32⟩ : BufTy).Contents (Elt Ideal) → (⟨S128x100000, .f32⟩ : BufTy).Contents (Elt Ideal) → (⟨S128x100000, .f32⟩ : BufTy).Contents (Elt Ideal)),
    StableHlo.nullary main_cst_7 (constant (F := Ideal) S_ .f32 0x00800000#32),
    StableHlo.unary main_cst_7 main_v31 (broadcastInDim S128x100000 ![] bcast_S_S128x100000 : (⟨S_, .f32⟩ : BufTy).Contents (Elt Ideal) → (⟨S128x100000, .f32⟩ : BufTy).Contents (Elt Ideal)),
    StableHlo.binary main_v30 main_v31 main_v32 (maximumf (F := Ideal) (φ := .f32) : (⟨S128x100000, .f32⟩ : BufTy).Contents (Elt Ideal) → (⟨S128x100000, .f32⟩ : BufTy).Contents (Elt Ideal) → (⟨S128x100000, .f32⟩ : BufTy).Contents (Elt Ideal)),
    StableHlo.unary main_v32 main_v33 (Host.log (F := Ideal) (φ := .f32) : (⟨S128x100000, .f32⟩ : BufTy).Contents (Elt Ideal) → (⟨S128x100000, .f32⟩ : BufTy).Contents (Elt Ideal)),
    StableHlo.unary main_v33 main_v34 (Host.negf (F := Ideal) (φ := .f32) : (⟨S128x100000, .f32⟩ : BufTy).Contents (Elt Ideal) → (⟨S128x100000, .f32⟩ : BufTy).Contents (Elt Ideal)),
    StableHlo.unary main_v34 main_v35 (Host.log (F := Ideal) (φ := .f32) : (⟨S128x100000, .f32⟩ : BufTy).Contents (Elt Ideal) → (⟨S128x100000, .f32⟩ : BufTy).Contents (Elt Ideal)),
    StableHlo.unary main_v35 main_v36 (Host.negf (F := Ideal) (φ := .f32) : (⟨S128x100000, .f32⟩ : BufTy).Contents (Elt Ideal) → (⟨S128x100000, .f32⟩ : BufTy).Contents (Elt Ideal)),
    StableHlo.binary main_v36 main_arg0 main_v37 (addf (F := Ideal) (φ := .f32) : (⟨S128x100000, .f32⟩ : BufTy).Contents (Elt Ideal) → (⟨S128x100000, .f32⟩ : BufTy).Contents (Elt Ideal) → (⟨S128x100000, .f32⟩ : BufTy).Contents (Elt Ideal))]

/-- The argmax of every row. -/
noncomputable def pickOps : List (HloOp τ sig (Elt Ideal)) := [
    StableHlo.nullary main_call1_v0 (iotaInDim S128x100000 32 1),
    StableHlo.nullary main_call1_cst (constant (F := Ideal) S_ .f32 0xFF800000#32),
    StableHlo.nullary main_call1_c (constantI S_ 32 0#32),
    StableHlo.quaternary main_v37 main_call1_v0 main_call1_cst main_call1_c main_call1_v1_0 (fun x y u v j => (Host.argReduce (F := Ideal) (φ := .f32) (reducer_argmax_f32_i32 (F := Ideal)) x y u v reducesTo_S128x100000_S128_d1 h_S_ j).1 : (⟨S128x100000, .f32⟩ : BufTy).Contents (Elt Ideal) → Words → (⟨S_, .f32⟩ : BufTy).Contents (Elt Ideal) → Word → (⟨S128, .f32⟩ : BufTy).Contents (Elt Ideal)),
    StableHlo.quaternary main_v37 main_call1_v0 main_call1_cst main_call1_c main_v38 (fun x y u v j => (Host.argReduce (F := Ideal) (φ := .f32) (reducer_argmax_f32_i32 (F := Ideal)) x y u v reducesTo_S128x100000_S128_d1 h_S_ j).2 : (⟨S128x100000, .f32⟩ : BufTy).Contents (Elt Ideal) → Words → (⟨S_, .f32⟩ : BufTy).Contents (Elt Ideal) → Word → (⟨S128, .i32⟩ : BufTy).Contents (Elt Ideal))]

/-- The cipher. -/
noncomputable def cipherOps : List (HloOp τ sig (Elt Ideal)) := startOps ++ (mix1Ops ++ (mix2Ops ++ (mix3Ops ++ (mix4Ops ++ mix5Ops))))

/-- The whole reference. -/
noncomputable def allOps : List (HloOp τ sig (Elt Ideal)) := seedOps ++ (keyOps ++ (countOps ++ (cipherOps ++ (noiseOps ++ pickOps))))

/-- The reference is that line. -/
theorem main_eq (d : Dev nD) : main (F := Ideal) d = StableHlo.seq allOps := by
  rfl

end Cert.BoundedIdeal.Value

end
-- ==== Proof.BoundReads.lean ====
/-
  What each stretch of the reference with the lower bound leaves in the buffers that the next one reads. The functions on
  whole arrays are those of RefReads, and one more, the bound.
-/
module

public import proofs.«01_k».proof.Proof.BoundOps
public import Idealize.ShloMosaic.Lib.StableHlo.RunRead

@[expose] public section

noncomputable section

namespace Cert.BoundedIdeal.Value

open Idealize.ShloMosaic Idealize.ShloMosaic.TcCoe Idealize.SL.Sem
open Cert.BoundedIdeal Cert.BoundedIdeal.Gen Cert.ReferenceIdeal.Value

/-- The uniform numbers, at least the smallest normal float. -/
def vatLeast (u : FVec Ideal S128x100000 .f32) : FVec Ideal S128x100000 .f32 :=
  maximumf u (broadcastInDim S128x100000 ![] bcast_S_S128x100000 (constant (F := Ideal) S_ .f32 0x00800000#32))

variable (V : Valuation τ sig (Elt Ideal))

/-! ### The reads -/

theorem seed_read : StableHlo.after seedOps V ↑main_v2 = vseedHigh ∧ StableHlo.after seedOps V ↑main_v5 = vseedLow
    ∧ StableHlo.after seedOps V ↑main_arg0 = V ↑main_arg0 := by
  unfold seedOps; after_reads_simp; exact ⟨rfl, rfl, trivial⟩

theorem key_read : StableHlo.after keyOps V ↑main_v8 = vfst (vjoin (V ↑main_v2) (V ↑main_v5))
    ∧ StableHlo.after keyOps V ↑main_v10 = vsnd (vjoin (V ↑main_v2) (V ↑main_v5))
    ∧ StableHlo.after keyOps V ↑main_arg0 = V ↑main_arg0 := by
  unfold keyOps; after_reads_simp; exact ⟨rfl, rfl, trivial⟩

theorem count_read : StableHlo.after countOps V ↑main_v20 = vlow ∧ StableHlo.after countOps V ↑main_v21 = vhigh
    ∧ StableHlo.after countOps V ↑main_v8 = V ↑main_v8 ∧ StableHlo.after countOps V ↑main_v10 = V ↑main_v10
    ∧ StableHlo.after countOps V ↑main_arg0 = V ↑main_arg0 := by
  unfold countOps; after_reads_simp; exact ⟨rfl, rfl, trivial, trivial, trivial⟩

/-- The key words and the logits of a state of the buffers. -/
def fixedPart (V : Valuation τ sig (Elt Ideal)) : Word × Word × Word × FVec Ideal S128x100000 .f32 :=
  (V ↑main_v8, V ↑main_v10, V ↑main_call0_v1, V ↑main_arg0)

theorem start_read :
    fixedPart (StableHlo.after startOps V)
      = (V ↑main_v8, V ↑main_v10, xori (xori (V ↑main_v8) (V ↑main_v10)) (constantI S_ 32 466688986#32), V ↑main_arg0)
    ∧ StableHlo.after startOps V ↑main_call0_v3 = addi (V ↑main_v21) (spread (V ↑main_v8))
    ∧ StableHlo.after startOps V ↑main_call0_v5 = addi (V ↑main_v20) (spread (V ↑main_v10)) := by
  unfold startOps fixedPart; after_reads_simp; exact ⟨trivial, rfl, rfl⟩

theorem mix1_read :
    fixedPart (StableHlo.after mix1Ops V) = fixedPart V
    ∧ (StableHlo.after mix1Ops V ↑main_call0_v35, StableHlo.after mix1Ops V ↑main_call0_v39)
      = vinject (V ↑main_v10) (V ↑main_call0_v1) 1#32 (vfourA (V ↑main_call0_v3, V ↑main_call0_v5)) := by
  unfold mix1Ops fixedPart; after_reads_simp; exact ⟨trivial, rfl⟩

theorem mix2_read :
    fixedPart (StableHlo.after mix2Ops V) = fixedPart V
    ∧ (StableHlo.after mix2Ops V ↑main_call0_v69, StableHlo.after mix2Ops V ↑main_call0_v73)
      = vinject (V ↑main_call0_v1) (V ↑main_v8) 2#32 (vfourB (V ↑main_call0_v35, V ↑main_call0_v39)) := by
  unfold mix2Ops fixedPart; after_reads_simp; exact ⟨trivial, rfl⟩

theorem mix3_read :
    fixedPart (StableHlo.after mix3Ops V) = fixedPart V
    ∧ (StableHlo.after mix3Ops V ↑main_call0_v103, StableHlo.after mix3Ops V ↑main_call0_v107)
      = vinject (V ↑main_v8) (V ↑main_v10) 3#32 (vfourA (V ↑main_call0_v69, V ↑main_call0_v73)) := by
  unfold mix3Ops fixedPart; after_reads_simp; exact ⟨trivial, rfl⟩

theorem mix4_read :
    fixedPart (StableHlo.after mix4Ops V) = fixedPart V
    ∧ (StableHlo.after mix4Ops V ↑main_call0_v137, StableHlo.after mix4Ops V ↑main_call0_v141)
      = vinject (V ↑main_v10) (V ↑main_call0_v1) 4#32 (vfourB (V ↑main_call0_v103, V ↑main_call0_v107)) := by
  unfold mix4Ops fixedPart; after_reads_simp; exact ⟨trivial, rfl⟩

theorem mix5_read :
    fixedPart (StableHlo.after mix5Ops V) = fixedPart V
    ∧ (StableHlo.after mix5Ops V ↑main_v22_0, StableHlo.after mix5Ops V ↑main_v22_1)
      = vinject (V ↑main_call0_v1) (V ↑main_v8) 5#32 (vfourA (V ↑main_call0_v137, V ↑main_call0_v141)) := by
  unfold mix5Ops fixedPart; after_reads_simp; exact ⟨trivial, rfl⟩

theorem noise_read : StableHlo.after noiseOps V ↑main_v37 = vscore (vatLeast (vunif (V ↑main_v22_0, V ↑main_v22_1))) (V ↑main_arg0)
    ∧ StableHlo.after noiseOps V ↑main_arg0 = V ↑main_arg0 := by
  unfold noiseOps; after_reads_simp; exact ⟨rfl, trivial⟩

theorem pick_read : StableHlo.after pickOps V ↑main_v38 = vpick (V ↑main_v37)
    ∧ StableHlo.after pickOps V ↑main_arg0 = V ↑main_arg0 := by
  unfold pickOps; after_reads_simp; exact ⟨rfl, trivial⟩

end Cert.BoundedIdeal.Value

end
-- ==== Proof.Bound.lean ====
/-
  The candidate value of a category when the uniform number is bounded below by the smallest normal float.
-/
module

public import proofs.«01_k».proof.Proof.Score

@[expose] public section

noncomputable section

namespace Cert.Sampling

open Idealize.ShloMosaic

/-- The lower bound: the smallest normal float. -/
def least : EReal := Ideal.ofBits .f32 0x00800000#32

/-- The candidate value of a category with logit `l` at counter `x`, its uniform number bounded below. -/
def boundedScore (l : EReal) (x : BitVec 32) : EReal := l - antiGumbel (max (unif x) least)

/-- The candidate values of row `r`, as `candidate` gives them, with the bound. -/
def boundedCandidate (A : (⟨2, ![128, 100000]⟩ : Shape).Idx → EReal) (r : Fin 128) (k : ℕ) : EReal :=
  if h : k < 100000 then
    boundedScore (A (Shape.pair (d := ![128, 100000]) (r : Fin 128) (⟨k, h⟩ : Fin 100000))) (BitVec.ofNat 32 (r.val * 100000 + k + 42))
  else ⊥

theorem boundedCandidate_of_lt (A : (⟨2, ![128, 100000]⟩ : Shape).Idx → EReal) (r : Fin 128) (k : ℕ) (h : k < 100000) :
    boundedCandidate A r k = boundedScore (A (Shape.pair (d := ![128, 100000]) (r : Fin 128) (⟨k, h⟩ : Fin 100000)))
      (BitVec.ofNat 32 (r.val * 100000 + k + 42)) := dif_pos h

end Cert.Sampling

end
-- ==== Proof.BoundRun.lean ====
/-
  The run of the reference with the lower bound: the returned vector holds, row by row, the first category at which the
  row's candidate values, taken with the bound, are greatest.
-/
module

public import proofs.«01_k».proof.Proof.BoundReads
public import proofs.«01_k».proof.Proof.Bound
public import proofs.«01_k».proof.Proof.RefRun

@[expose] public section

noncomputable section

namespace Cert.BoundedIdeal.Value

open Idealize.ShloMosaic Idealize.ShloMosaic.Pipeline Idealize.ShloMosaic.TcCoe Idealize.SL.Sem
open Cert.BoundedIdeal Cert.BoundedIdeal.Gen Cert.Sampling
open Cert.ReferenceIdeal.Value (Word Words entry counter vround vinject vfourA vfourB vinject_fourA vinject_fourB vlow vhigh vunif
  vscore vpick vunif_apply vscore_apply vpick_isFirst start_entry fst_key snd_key third_key)

variable (V : Valuation τ sig (Elt Ideal))

/-- The bound at one entry. -/
theorem vatLeast_apply (u : FVec Ideal S128x100000 .f32) (i : S128x100000.Idx) : vatLeast u i = max (u i) least := rfl

/-- What every stretch of the cipher keeps: the three key words, and the logits `A`. -/
def Fixed (A : FVec Ideal S128x100000 .f32) (V : Valuation τ sig (Elt Ideal)) : Prop :=
  fixedPart V = (constantI S_ 32 0#32, constantI S_ 32 42#32, constantI S_ 32 466689008#32, A)

variable {V}

theorem Fixed.k0 {A} (h : Fixed A V) : V ↑main_v8 = constantI S_ 32 0#32 := congrArg (fun p => p.1) h
theorem Fixed.k1 {A} (h : Fixed A V) : V ↑main_v10 = constantI S_ 32 42#32 := congrArg (fun p => p.2.1) h
theorem Fixed.k2 {A} (h : Fixed A V) : V ↑main_call0_v1 = constantI S_ 32 466689008#32 := congrArg (fun p => p.2.2.1) h
theorem Fixed.logits {A} (h : Fixed A V) : V ↑main_arg0 = A := congrArg (fun p => p.2.2.2) h

variable (V)

/-- Before the first round: the key words, and the counters with the key added. -/
theorem start_state (A : FVec Ideal S128x100000 .f32) (h8 : V ↑main_v8 = constantI S_ 32 0#32)
    (h10 : V ↑main_v10 = constantI S_ 32 42#32) (h20 : V ↑main_v20 = vlow) (h21 : V ↑main_v21 = vhigh) (hA : V ↑main_arg0 = A) :
    Fixed A (StableHlo.after startOps V) ∧ ∀ i, entry (StableHlo.after startOps V ↑main_call0_v3,
      StableHlo.after startOps V ↑main_call0_v5) i = (0#32, counter i) := by
  obtain ⟨hf, h3, h5⟩ := start_read V
  refine ⟨?_, fun i => ?_⟩
  · rw [Fixed, hf, h8, h10, hA, third_key]
  · rw [h3, h5, h8, h10, h20, h21]
    exact start_entry i

/-- After the cipher: its two words at every entry, and the logits. -/
theorem cipher_state (A : FVec Ideal S128x100000 .f32) (h8 : V ↑main_v8 = constantI S_ 32 0#32)
    (h10 : V ↑main_v10 = constantI S_ 32 42#32) (h20 : V ↑main_v20 = vlow) (h21 : V ↑main_v21 = vhigh) (hA : V ↑main_arg0 = A) :
    StableHlo.after cipherOps V ↑main_arg0 = A
    ∧ ∀ i, entry (StableHlo.after cipherOps V ↑main_v22_0, StableHlo.after cipherOps V ↑main_v22_1) i = st5 (counter i) := by
  obtain ⟨f0, e0⟩ := start_state V A h8 h10 h20 h21 hA
  simp only [cipherOps, StableHlo.after_append]
  generalize StableHlo.after startOps V = V0 at *
  have f1 : Fixed A (StableHlo.after mix1Ops V0) := (mix1_read V0).1.trans f0
  have e1 : ∀ i, entry (StableHlo.after mix1Ops V0 ↑main_call0_v35, StableHlo.after mix1Ops V0 ↑main_call0_v39) i
      = st1 (counter i) := fun i => by
    rw [(mix1_read V0).2, vinject_fourA f0.k1 f0.k2, e0 i]; rfl
  generalize StableHlo.after mix1Ops V0 = V1 at *
  have f2 : Fixed A (StableHlo.after mix2Ops V1) := (mix2_read V1).1.trans f1
  have e2 : ∀ i, entry (StableHlo.after mix2Ops V1 ↑main_call0_v69, StableHlo.after mix2Ops V1 ↑main_call0_v73) i
      = st2 (counter i) := fun i => by
    rw [(mix2_read V1).2, vinject_fourB f1.k2 f1.k0, e1 i]; rfl
  generalize StableHlo.after mix2Ops V1 = V2 at *
  have f3 : Fixed A (StableHlo.after mix3Ops V2) := (mix3_read V2).1.trans f2
  have e3 : ∀ i, entry (StableHlo.after mix3Ops V2 ↑main_call0_v103, StableHlo.after mix3Ops V2 ↑main_call0_v107) i
      = st3 (counter i) := fun i => by
    rw [(mix3_read V2).2, vinject_fourA f2.k0 f2.k1, e2 i]; rfl
  generalize StableHlo.after mix3Ops V2 = V3 at *
  have f4 : Fixed A (StableHlo.after mix4Ops V3) := (mix4_read V3).1.trans f3
  have e4 : ∀ i, entry (StableHlo.after mix4Ops V3 ↑main_call0_v137, StableHlo.after mix4Ops V3 ↑main_call0_v141) i
      = st4 (counter i) := fun i => by
    rw [(mix4_read V3).2, vinject_fourB f3.k1 f3.k2, e3 i]; rfl
  generalize StableHlo.after mix4Ops V3 = V4 at *
  have f5 : Fixed A (StableHlo.after mix5Ops V4) := (mix5_read V4).1.trans f4
  refine ⟨f5.logits, fun i => ?_⟩
  rw [(mix5_read V4).2, vinject_fourA f4.k2 f4.k0, e4 i]; rfl

/-- The whole line: the argmax of the perturbed logits, and the logits unchanged. -/
theorem all_state : StableHlo.after allOps V ↑main_arg0 = V ↑main_arg0
    ∧ ∃ p : Words × Words, (∀ i, entry p i = st5 (counter i))
      ∧ StableHlo.after allOps V ↑main_v38 = vpick (vscore (vatLeast (vunif p)) (V ↑main_arg0)) := by
  simp only [allOps, StableHlo.after_append]
  obtain ⟨h2, h5, hA⟩ := seed_read V
  generalize V ↑main_arg0 = A at *
  generalize StableHlo.after seedOps V = V0 at *
  obtain ⟨h8, h10, hA'⟩ := key_read V0
  rw [h2, h5] at h8 h10
  replace h8 := h8.trans fst_key
  replace h10 := h10.trans snd_key
  replace hA' := hA'.trans hA
  generalize StableHlo.after keyOps V0 = V1 at *
  obtain ⟨h20, h21, k8, k10, kA⟩ := count_read V1
  replace k8 := k8.trans h8
  replace k10 := k10.trans h10
  replace kA := kA.trans hA'
  generalize StableHlo.after countOps V1 = V2 at *
  obtain ⟨cA, ce⟩ := cipher_state V2 A k8 k10 h20 h21 kA
  generalize StableHlo.after cipherOps V2 = V3 at *
  obtain ⟨n37, nA⟩ := noise_read V3
  rw [cA] at n37 nA
  generalize StableHlo.after noiseOps V3 = V4 at *
  obtain ⟨p38, pA⟩ := pick_read V4
  exact ⟨pA.trans nA, _, ce, by rw [p38, n37]⟩

/-- The vector that the reference returns. -/
theorem all_result (j : S128.Idx) : StableHlo.after allOps V ↑main_v38 j
    = BitVec.ofNat 32 (argFirst (boundedCandidate (V ↑main_arg0) (j 0)) 100000) := by
  obtain ⟨-, p, hp, h⟩ := all_state V
  rw [h]
  obtain ⟨a, ha, e⟩ := vpick_isFirst (vscore (vatLeast (vunif p)) (V ↑main_arg0)) j (boundedCandidate (V ↑main_arg0) (j 0)) fun i hi => by
    have h1 : (i 1).val < 100000 := (i 1).isLt
    have hpair : i = Shape.pair (d := ![128, 100000]) (j 0 : Fin 128) (⟨(i 1).val, h1⟩ : Fin 100000) :=
      funext fun | ⟨0, _⟩ => hi | ⟨1, _⟩ => rfl
    have hc : counter i = BitVec.ofNat 32 ((j 0 : Fin 128).val * 100000 + (i 1).val + 42) := by rw [counter, hi]
    refine (vscore_apply _ _ i).trans (Eq.trans ?_ (boundedCandidate_of_lt _ (j 0) (i 1).val h1).symm)
    rw [vatLeast_apply, vunif_apply p i (hp i), hc, ← hpair]
    rfl
  rw [e, ha.argFirst_eq]

/-! ### The run -/

/-- Every operation reads and writes buffers of the program. -/
theorem all_bufs : (allOps : List (HloOp τ sig (Elt Ideal))).Forall fun op => op.bufs ⊆ StableHlo.tcRefs τ sig := by
  simp only [allOps, cipherOps, List.forall_append]
  refine ⟨?_, ?_, ?_, ⟨?_, ?_, ?_, ?_, ?_, ?_⟩, ?_, ?_⟩
  · simp [seedOps]
  · simp [keyOps]
  · simp [countOps]
  · simp [startOps]
  · simp [mix1Ops]
  · simp [mix2Ops]
  · simp [mix3Ops]
  · simp [mix4Ops]
  · simp [mix5Ops]
  · simp [noiseOps]
  · simp [pickOps]

/-- Every operation computes its results: none leaves a buffer's contents open. -/
theorem all_fresh : (allOps : List (HloOp τ sig (Elt Ideal))).Forall fun op => op.fresh = ∅ := by
  simp only [allOps, cipherOps, List.forall_append]
  exact ⟨by repeat' constructor, by repeat' constructor, by repeat' constructor,
    ⟨by repeat' constructor, by repeat' constructor, by repeat' constructor, by repeat' constructor, by repeat' constructor,
      by repeat' constructor⟩, by repeat' constructor, by repeat' constructor⟩

/-- The reference's run, read: the returned vector and the unchanged argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v38)
        = (fun j => BitVec.ofNat 32 (argFirst (boundedCandidate (m ((c : Thread nD τ).loc main_arg0)) (j 0)) 100000) : S128.Idx → BitVec 32)
      ∧ r.2.mem ((c : Thread nD τ).loc main_arg0) = m ((c : Thread nD τ).loc main_arg0) :=
  (θ_run defs _ _).mono (fun _ h c => ⟨(h c main_v38).trans (funext (all_result _)), (h c main_arg0).trans (all_state _).1⟩)
    (StableHlo.run_hlo defs main main_eq (by decide) (by decide) all_bufs (List.forall_iff_forall_mem.1 all_fresh) m ρ)

end Cert.BoundedIdeal.Value

end
-- ==== Proof.Tops.lean ====
/-
  In every row the uniform number of some category is close to one: the category and the number, row by row.
-/
module

public import proofs.«01_k».proof.Proof.Threefry

@[expose] public section

namespace Cert.Sampling

/-- The fraction of the uniform number at a counter: the top 23 bits of the random word. -/
def frac (x : BitVec 32) : ℕ := (word x >>> 9#32).toNat

/-- For each row the category with the greatest uniform number. -/
def tops : List ℕ := [
  59469, 38259, 69600, 27910, 69343, 6784, 25705, 24483, 26639, 33386, 30457, 40870, 78185, 45648, 28283, 5509,
  17906, 11619, 46124, 6518, 7335, 49288, 24234, 69025, 31631, 23149, 85454, 32180, 68907, 58682, 65526, 91754,
  79288, 51131, 8050, 64816, 65389, 90946, 20679, 64615, 50910, 30874, 37075, 27, 25815, 63129, 25100, 93358,
  26348, 31721, 34048, 22813, 77898, 97789, 90270, 74955, 97173, 19447, 52927, 18770, 95835, 16057, 48912, 25982,
  5068, 77742, 16691, 82033, 26556, 16054, 7568, 56901, 99157, 28618, 32971, 55225, 58317, 52049, 46546, 70824,
  45051, 95695, 75558, 80364, 29025, 64466, 94109, 82159, 44331, 27681, 47513, 66343, 2640, 18756, 21074, 78508,
  82291, 66410, 29667, 84988, 32737, 19006, 96376, 50420, 61652, 84016, 19146, 10005, 59793, 95951, 32140, 812,
  81701, 61938, 22536, 9635, 65692, 79145, 48237, 97382, 47228, 61503, 36793, 72655, 1571, 21752, 21414, 51843]

/-- Of row `r`, that category. -/
def top (r : ℕ) : ℕ := tops.getD r 0

/-- It is a category, and its uniform number is within 410 units of 2⁻²³ from one. -/
theorem top_spec : ∀ r : Fin 128, top r.val < 100000
    ∧ 8388198 ≤ frac (BitVec.ofNat 32 (r.val * 100000 + top r.val + 42)) := by
  decide +kernel

end Cert.Sampling
-- ==== Proof.Unif.lean ====
/-
  The uniform number at a counter, as a real number.
-/
module

public import proofs.«01_k».proof.Proof.Score
public import proofs.«01_k».proof.Proof.Tops
public import Idealize.ShloMosaic.PureOps.Ideal.Laws

@[expose] public section

noncomputable section

namespace Cert.Sampling

open Idealize.ShloMosaic

theorem frac_eq (x : BitVec 32) : frac x = (word x).toNat / 512 := by
  show (word x >>> 9#32).toNat = _
  rw [BitVec.ushiftRight_eq', BitVec.toNat_ushiftRight, Nat.shiftRight_eq_div_pow]
  rfl

theorem frac_lt (x : BitVec 32) : frac x < 8388608 := by
  have := (word x).isLt
  rw [frac_eq]
  omega

theorem pattern_toNat (x : BitVec 32) : (pattern x).toNat = 1065353216 + frac x := by
  have h : 2 ^ 23 * 127 + frac x = 2 ^ 23 * 127 ||| frac x := Nat.two_pow_add_eq_or_of_lt (frac_lt x) 127
  show ((word x >>> 9#32) ||| 1065353216#32).toNat = _
  rw [BitVec.toNat_or, show (1065353216#32 : BitVec 32).toNat = 2 ^ 23 * 127 from rfl, Nat.or_comm]
  exact h.symm

/-- The float of a pattern with the exponent of 1. -/
theorem ofBits_one_add {b : BitVec 32} {n : ℕ} (hl : n < 8388608) (hb : b.toNat = 1065353216 + n) :
    Ideal.ofBits .f32 b = ((1 + (n : ℝ) / 8388608 : ℝ) : EReal) := by
  have h1 : b.extractLsb' (8 + 23) 1 = 0#1 := by
    apply BitVec.eq_of_toNat_eq
    rw [BitVec.extractLsb'_toNat, hb, Nat.shiftRight_eq_div_pow]
    simp only [BitVec.toNat_ofNat]
    omega
  have h2 : (b.extractLsb' 23 8).toNat = 127 := by
    rw [BitVec.extractLsb'_toNat, hb, Nat.shiftRight_eq_div_pow]
    omega
  have h3 : (b.extractLsb' 0 23).toNat = n := by
    rw [BitVec.extractLsb'_toNat, hb, Nat.shiftRight_eq_div_pow]
    omega
  show Ideal.ieee 8 23 b = _
  unfold Ideal.ieee
  simp only [h1, h2, h3]
  rw [if_neg (by norm_num), if_neg (by norm_num)]
  refine congrArg _ ?_
  rw [if_neg (by decide), show ((127 : ℕ) : ℤ) - (2 ^ (8 - 1) - 1) - (23 : ℕ) = -23 by norm_num, zpow_neg]
  push_cast
  norm_num
  ring

/-- The uniform number: a multiple of 2⁻²³. -/
theorem unif_eq (x : BitVec 32) : unif x = (((frac x : ℝ) / 8388608 : ℝ) : EReal) := by
  have h : Ideal.ofBits .f32 0x3F800000#32 = ((1 + ((0 : ℕ) : ℝ) / 8388608 : ℝ) : EReal) := ofBits_one_add (by norm_num) rfl
  rw [unif, ofBits_one_add (frac_lt x) (pattern_toNat x), h, ← EReal.coe_sub]
  congr 1
  push_cast
  ring

theorem log_coe {r : ℝ} (h : 0 < r) : Ideal.log (r : EReal) = (Real.log r : EReal) := by
  show (if r ≤ 0 then (⊥ : EReal) else (Real.log r : EReal)) = _
  rw [if_neg (not_le.2 h)]

/-- Minus the Gumbel noise at a number between zero and one. -/
theorem antiGumbel_coe {u : ℝ} (h0 : 0 < u) (h1 : u < 1) : antiGumbel (u : EReal) = (Real.log (-Real.log u) : EReal) := by
  unfold antiGumbel
  rw [log_coe h0, ← EReal.coe_neg, log_coe (neg_pos.2 (Real.log_neg h0 h1))]

theorem antiGumbel_zero : antiGumbel ((0 : ℝ) : EReal) = ⊤ := by
  have h : Ideal.log ((0 : ℝ) : EReal) = ⊥ := if_pos le_rfl
  unfold antiGumbel
  rw [h, EReal.neg_bot]
  rfl

end Cert.Sampling

end
-- ==== Proof.Moderate.lean ====
/-
  For logits between -7 and 7 the lower bound of the uniform number changes no row's first greatest place. Only a uniform
  number of zero is touched by the bound, and a category with that number loses, with the bound and without it, to the
  category of its row whose uniform number is close to one.
-/
module

public import proofs.«01_k».proof.Proof.Bound
public import proofs.«01_k».proof.Proof.Unif
public import proofs.«01_k».proof.Proof.Track
public import Mathlib.Analysis.Complex.Exponential
public import Mathlib.Analysis.SpecialFunctions.Log.Basic

@[expose] public section

noncomputable section

namespace Cert.Sampling

open Idealize.ShloMosaic

/-- Two rows of values that differ only at places below a common value have the same first greatest place. -/
theorem IsFirst.transfer {f g : ℕ → EReal} {n c w : ℕ} (h : IsFirst f n c) (hw : w < n) (he : f w = g w)
    (hd : ∀ k < n, f k = g k ∨ (f k < f w ∧ g k < f w)) : IsFirst g n c := by
  have hc : f c = g c := (hd c h.1).resolve_right fun hlt => absurd (h.2.1 w hw) (not_le.2 hlt.1)
  have hwc : f w ≤ f c := h.2.1 w hw
  refine ⟨h.1, fun k hk => ?_, fun k hk => ?_⟩
  · rcases hd k hk with e | ⟨-, e⟩
    · rw [← e, ← hc]; exact h.2.1 k hk
    · rw [← hc]; exact e.le.trans hwc
  · rcases hd k (hk.trans h.1) with e | ⟨-, e⟩
    · rw [← e, ← hc]; exact h.2.2 k hk
    · rw [← hc]; exact e.trans_le hwc

/-- The lower bound is 2⁻¹²⁶. -/
theorem least_eq : least = (((2 : ℝ) ^ (-126 : ℤ) : ℝ) : EReal) := by
  have h1 : (0x00800000#32 : BitVec 32).extractLsb' (8 + 23) 1 = 0#1 := by decide
  have h2 : ((0x00800000#32 : BitVec 32).extractLsb' 23 8).toNat = 1 := by decide
  have h3 : ((0x00800000#32 : BitVec 32).extractLsb' 0 23).toNat = 0 := by decide
  show Ideal.ieee 8 23 (0x00800000#32 : BitVec 32) = _
  unfold Ideal.ieee
  simp only [h1, h2, h3]
  rw [if_neg (by norm_num), if_neg (by norm_num)]
  refine congrArg _ ?_
  rw [if_neg (by decide)]
  norm_num

/-- The first terms of the exponential series bound e. -/
theorem exp_one_lt : Real.exp 1 < 2.72 := by
  have h := Real.exp_bound' (x := 1) zero_le_one le_rfl (n := 7) (by norm_num)
  refine h.trans_lt ?_
  norm_num [Finset.sum_range_succ, Nat.factorial]

/-- A power of e is below that power of 2.72. -/
theorem exp_nat_lt {n : ℕ} (h : n ≠ 0) : Real.exp n < 2.72 ^ n := by
  rw [← mul_one (n : ℝ), Real.exp_nat_mul]
  exact pow_lt_pow_left₀ exp_one_lt (Real.exp_pos 1).le h

/-- The lower bound is below e⁻⁸⁷. -/
theorem log_least : Real.log ((2 : ℝ) ^ (-126 : ℤ)) < -87 := by
  have h : (87 : ℝ) < Real.log ((2 : ℝ) ^ 126) := by
    rw [Real.lt_log_iff_exp_lt (by positivity)]
    exact (exp_nat_lt (n := 87) (by norm_num)).trans (by norm_num)
  rw [zpow_neg, Real.log_inv]
  exact neg_lt_neg h

/-- A positive uniform number is above the bound, and the candidate value is the same with it. -/
theorem boundedScore_eq (l : EReal) (x : BitVec 32) (h : 0 < frac x) : boundedScore l x = score l x := by
  have hle : least ≤ unif x := by
    rw [least_eq, unif_eq, EReal.coe_le_coe_iff]
    have h1 : (1 : ℝ) ≤ frac x := by exact_mod_cast h
    have h2 : ((2 : ℝ) ^ (-126 : ℤ)) ≤ 1 / 8388608 := by norm_num
    linarith [div_le_div_of_nonneg_right h1 (by norm_num : (0 : ℝ) ≤ 8388608)]
  rw [boundedScore, max_eq_left hle, score]

/-- At a uniform number of zero the candidate value without the bound is -∞. -/
theorem score_zero (l : ℝ) (x : BitVec 32) (h : frac x = 0) : score l x = ⊥ := by
  rw [score, unif_eq, h, Nat.cast_zero, zero_div, antiGumbel_zero]
  rfl

/-- With the bound it is a real number. -/
theorem boundedScore_zero (l : ℝ) (x : BitVec 32) (h : frac x = 0) :
    boundedScore l x = ((l - Real.log (-Real.log ((2 : ℝ) ^ (-126 : ℤ))) : ℝ) : EReal) := by
  have hle : unif x ≤ least := by
    rw [least_eq, unif_eq, h, Nat.cast_zero, zero_div, EReal.coe_le_coe_iff]
    positivity
  rw [boundedScore, max_eq_right hle, least_eq, antiGumbel_coe (by positivity) (by norm_num), EReal.coe_sub]

/-- Between zero and one it is a real number too. -/
theorem score_coe (l : ℝ) (x : BitVec 32) (h : 0 < frac x) :
    score l x = ((l - Real.log (-Real.log ((frac x : ℝ) / 8388608)) : ℝ) : EReal) := by
  have h1 : (0 : ℝ) < frac x := by exact_mod_cast h
  have h2 : (frac x : ℝ) < 8388608 := by exact_mod_cast frac_lt x
  rw [score, unif_eq, antiGumbel_coe (by positivity) (by rw [div_lt_one (by norm_num)]; exact h2), EReal.coe_sub]

/-- The noise of a uniform number close to one is more than 14 above the noise at the lower bound. -/
theorem noise_gap {u : ℝ} (h0 : 8388198 / 8388608 ≤ u) (h1 : u < 1) :
    Real.log (-Real.log u) + 14 < Real.log (-Real.log ((2 : ℝ) ^ (-126 : ℤ))) := by
  have hu : 0 < u := lt_of_lt_of_le (by norm_num) h0
  have hpos : 0 < -Real.log u := neg_pos.2 (Real.log_neg hu h1)
  have hinv : -Real.log u ≤ u⁻¹ - 1 := by
    rw [← Real.log_inv]
    exact Real.log_le_sub_one_of_pos (inv_pos.2 hu)
  have hinv' : u⁻¹ ≤ 8388608 / 8388198 := by
    rw [← inv_div]
    exact inv_anti₀ (by norm_num) h0
  have hexp : Real.exp 14 < 1300000 := (exp_nat_lt (n := 14) (by norm_num)).trans (by norm_num)
  have hlt : -Real.log u * Real.exp 14 < -Real.log ((2 : ℝ) ^ (-126 : ℤ)) := by
    have h2 : -Real.log u ≤ 410 / 8388198 := by linarith [hinv, hinv']
    have h3 : -Real.log u * Real.exp 14 ≤ 410 / 8388198 * 1300000 :=
      mul_le_mul h2 hexp.le (Real.exp_pos _).le (by norm_num)
    have := log_least
    have h4 : (410 : ℝ) / 8388198 * 1300000 < 87 := by norm_num
    linarith
  have h5 := Real.log_lt_log (mul_pos hpos (Real.exp_pos _)) hlt
  rwa [Real.log_mul hpos.ne' (Real.exp_pos _).ne', Real.log_exp] at h5

/-- The logits are real numbers between -7 and 7. -/
def IsModerate (A : (⟨2, ![128, 100000]⟩ : Shape).Idx → EReal) : Prop :=
  ∀ i, ∃ l : ℝ, A i = (l : EReal) ∧ -7 ≤ l ∧ l ≤ 7

/-- With the bound and without it, the first greatest place of a row is the same. -/
theorem argFirst_bounded (A : (⟨2, ![128, 100000]⟩ : Shape).Idx → EReal) (hA : IsModerate A) (r : Fin 128) :
    argFirst (boundedCandidate A r) 100000 = argFirst (candidate A r) 100000 := by
  obtain ⟨c, hc, -⟩ := track_isFirst (candidate A r) 99999
  obtain ⟨hw, ht⟩ := top_spec r
  refine (IsFirst.transfer hc hw ?_ fun k hk => ?_).argFirst_eq.trans hc.argFirst_eq.symm
  · rw [candidate_of_lt A r _ hw, boundedCandidate_of_lt A r _ hw, boundedScore_eq _ _ (by omega)]
  · rw [candidate_of_lt A r _ hw, candidate_of_lt A r _ hk, boundedCandidate_of_lt A r _ hk]
    generalize BitVec.ofNat 32 (r.val * 100000 + top r.val + 42) = x at ht
    generalize BitVec.ofNat 32 (r.val * 100000 + k + 42) = y
    rcases Nat.eq_zero_or_pos (frac y) with hy | hy
    · obtain ⟨l, hl, hl1, hl2⟩ := hA (Shape.pair (d := ![128, 100000]) (r : Fin 128) (⟨top r.val, hw⟩ : Fin 100000))
      obtain ⟨l', hl', hl1', hl2'⟩ := hA (Shape.pair (d := ![128, 100000]) (r : Fin 128) (⟨k, hk⟩ : Fin 100000))
      rw [hl, hl', score_zero l' y hy, boundedScore_zero l' y hy, score_coe l x (by omega)]
      refine Or.inr ⟨EReal.bot_lt_coe _, EReal.coe_lt_coe_iff.2 ?_⟩
      have h2 : (frac x : ℝ) < 8388608 := by exact_mod_cast frac_lt x
      have h3 : (8388198 : ℝ) ≤ frac x := by exact_mod_cast ht
      have := noise_gap (u := (frac x : ℝ) / 8388608) (div_le_div_of_nonneg_right h3 (by norm_num))
        (by rw [div_lt_one (by norm_num)]; exact h2)
      linarith
    · exact Or.inl (boundedScore_eq _ y hy).symm

end Cert.Sampling

end
-- ==== Proof.lean ====
/-
  The certificate: the kernel, over the extended reals, returns the vector that the reference without the lower bound
  returns, for all logits, and the one that the reference with it returns, for logits between -7 and 7; and all programs
  end without fault, their argument unchanged and their counters at zero. The kernel's run is read in KernelRun, the
  references' in RefRun and BoundRun; this file puts them together.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.BoundedIdeal
public import proofs.«01_k».proof.Proof.Gen.Pre_moderate
public import proofs.«01_k».proof.Proof.KernelRun
public import proofs.«01_k».proof.Proof.RefRun
public import proofs.«01_k».proof.Proof.BoundRun
public import proofs.«01_k».proof.Proof.Moderate
public import Idealize.ShloMosaic.Lib.Quiescent
public import Idealize.ShloMosaic.Adequacy
public import Idealize.ShloMosaic.Init

@[expose] public section

noncomputable section

namespace Cert.Proof

open Idealize.ShloMosaic Idealize.SL.Sem

/-- The kernel, on machine words, ends without fault, its argument unchanged and every counter at zero. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same of the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Kernel and reference return the same vector: row by row the first category of the greatest candidate value. -/
theorem same_result : Cert.algebraic_KernelIdeal_ReferenceIdeal := fun m g m' g' _ hagree =>
  ⟨fun c => Cert.KernelIdeal.Value.result (Cert.KernelIdeal.Value.logits m c), Cert.KernelIdeal.Value.run m g,
    (θ_run Cert.ReferenceIdeal.defs _ _).mono (fun r h c => ⟨(h c).1.trans (by rw [hagree c]; rfl), (h c).2⟩)
      (Cert.ReferenceIdeal.Value.run m' g')⟩

/-- The reference with the bound has no counters either. -/
theorem frame_bounded : Cert.quiescent_BoundedIdeal := fun m ρ _ =>
  (θ_run Cert.BoundedIdeal.defs _ _).mono (fun r h => ⟨fun c => (h c).2, sem_eq_zero_of_no_sems (by decide) r.2⟩)
    (Cert.BoundedIdeal.Value.run m ρ)

/-- What the precondition says of the logits. -/
theorem moderate_of_pre (A : Cert.Pre_moderate.S128x100000.Idx → EReal) (h : Cert.Pre_moderate.fn (F := Ideal) A = fun _ => 1#1) :
    Cert.Sampling.IsModerate A := fun i => by
  have h7 : Ideal.ofBits .f32 0x40E00000#32 = ((7 : ℝ) : EReal) := by
    have h1 : (0x40E00000#32 : BitVec 32).extractLsb' (8 + 23) 1 = 0#1 := by decide
    have h2 : ((0x40E00000#32 : BitVec 32).extractLsb' 23 8).toNat = 129 := by decide
    have h3 : ((0x40E00000#32 : BitVec 32).extractLsb' 0 23).toNat = 6291456 := by decide
    show Ideal.ieee 8 23 (0x40E00000#32 : BitVec 32) = _
    unfold Ideal.ieee
    simp only [h1, h2, h3]
    rw [if_neg (by norm_num), if_neg (by norm_num)]
    refine congrArg _ ?_
    rw [if_neg (by decide)]
    norm_num [zpow_neg]
  have hle : max (A i) (-(A i)) ≤ ((7 : ℝ) : EReal) := by
    rw [← h7]
    have hi : BitVec.ofBool (decide (max (A i) (-(A i)) ≤ Ideal.ofBits .f32 0x40E00000#32)) = 1#1 := congrFun h i
    by_contra hn
    rw [decide_eq_false hn] at hi
    exact absurd hi (by decide)
  obtain ⟨hu, hl⟩ := max_le_iff.1 hle
  generalize A i = a at hu hl
  induction a with
  | bot => exact absurd hl (by simp)
  | top => exact absurd hu (by simp)
  | coe l =>
    refine ⟨l, rfl, ?_, EReal.coe_le_coe_iff.1 hu⟩
    rw [← EReal.coe_neg, EReal.coe_le_coe_iff] at hl
    linarith

/-- For logits between -7 and 7, kernel and the reference with the bound return the same vector. -/
theorem same_result_bounded : Cert.algebraic_KernelIdeal_BoundedIdeal_pre_moderate := fun m g m' g' hpre hagree =>
  ⟨fun c => Cert.KernelIdeal.Value.result (Cert.KernelIdeal.Value.logits m c), Cert.KernelIdeal.Value.run m g,
    (θ_run Cert.BoundedIdeal.defs _ _).mono (fun r h c => ⟨(h c).1.trans (by
        rw [hagree c]
        exact funext fun j => congrArg (BitVec.ofNat 32)
          (Cert.Sampling.argFirst_bounded _ (moderate_of_pre _ (hpre c)) (j 0))), (h c).2⟩)
      (Cert.BoundedIdeal.Value.run m' g')⟩

theorem claim : Cert.Claim :=
  ⟨Cert.Kernel.Gen.facts, Cert.KernelIdeal.Gen.facts, Cert.ReferenceIdeal.Gen.facts, Cert.BoundedIdeal.Gen.facts,
    Cert.Pre_moderate.Gen.facts, frame_kernel, frame_ideal, fun m ρ _ => frame_ideal m ρ trivial, frame_reference,
    frame_bounded, fun m ρ _ => frame_bounded m ρ trivial, trivial, same_result, same_result_bounded⟩

end Cert.Proof

end
